-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S11264x1024 : Shape := ⟨2, ![11264, 1024]⟩
abbrev S64x1408 : Shape := ⟨2, ![64, 1408]⟩
abbrev S64x11264 : Shape := ⟨2, ![64, 11264]⟩
abbrev S128x8192 : Shape := ⟨2, ![128, 8192]⟩
abbrev S128x11264 : Shape := ⟨2, ![128, 11264]⟩
abbrev S512x1024 : Shape := ⟨2, ![512, 1024]⟩
abbrev S64x128 : Shape := ⟨2, ![64, 128]⟩
abbrev S64x512 : Shape := ⟨2, ![64, 512]⟩
abbrev S128x512 : Shape := ⟨2, ![128, 512]⟩
abbrev S256x256 : Shape := ⟨2, ![256, 256]⟩
abbrev S128x256 : Shape := ⟨2, ![128, 256]⟩
abbrev S64x128x1 : Shape := ⟨3, ![64, 128, 1]⟩
abbrev S128x128 : Shape := ⟨2, ![128, 128]⟩
abbrev S1024x128 : Shape := ⟨2, ![1024, 128]⟩
abbrev S128x1x128 : Shape := ⟨3, ![128, 1, 128]⟩
abbrev S128x8x128 : Shape := ⟨3, ![128, 8, 128]⟩
abbrev S1x128 : Shape := ⟨2, ![1, 128]⟩
abbrev S16x128 : Shape := ⟨2, ![16, 128]⟩
abbrev S1024x512 : Shape := ⟨2, ![1024, 512]⟩
abbrev S128x1024 : Shape := ⟨2, ![128, 1024]⟩

abbrev nBuf : Space → Nat
  | .hbm => 6
  | .vmem => 12
  | .smem => 0
  | _ => 0

abbrev bufTy : (tb : Table) → Fin (tcTables nBuf tb) → BufTy
  | .hbm, ⟨0, _⟩ => ⟨S128x1x8192, .bf16⟩
  | .hbm, ⟨1, _⟩ => ⟨S11264x1024, .i32⟩
  | .hbm, ⟨2, _⟩ => ⟨S64x1408, .i32⟩
  | .hbm, ⟨3, _⟩ => ⟨S64x11264, .bf16⟩
  | .hbm, ⟨4, _⟩ => ⟨S128x8192, .bf16⟩
  | .hbm, ⟨5, _⟩ => ⟨S128x11264, .bf16⟩
  | .local _ .vmem, ⟨0, _⟩ => ⟨S128x8192, .bf16⟩
  | .local _ .vmem, ⟨1, _⟩ => ⟨S512x1024, .i32⟩
  | .local _ .vmem, ⟨2, _⟩ => ⟨S512x1024, .i32⟩
  | .local _ .vmem, ⟨3, _⟩ => ⟨S64x128, .i32⟩
  | .local _ .vmem, ⟨4, _⟩ => ⟨S64x128, .i32⟩
  | .local _ .vmem, ⟨5, _⟩ => ⟨S64x512, .bf16⟩
  | .local _ .vmem, ⟨6, _⟩ => ⟨S64x512, .bf16⟩
  | .local _ .vmem, ⟨7, _⟩ => ⟨S128x512, .bf16⟩
  | .local _ .vmem, ⟨8, _⟩ => ⟨S128x512, .bf16⟩
  | .local _ .vmem, ⟨9, _⟩ => ⟨S128x8192, .bf16⟩
  | .local _ .vmem, ⟨10, _⟩ => ⟨S64x512, .f32⟩
  | .local _ .vmem, ⟨11, _⟩ => ⟨S64x512, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x8192 : Shape := ⟨3, ![128, 1, 8192]⟩
abbrev S11264x1024 : Shape := ⟨2, ![11264, 1024]⟩
abbrev S64x1408 : Shape := ⟨2, ![64, 1408]⟩
abbrev S64x11264 : Shape := ⟨2, ![64, 11264]⟩
abbrev S_ : Shape := ⟨0, ![]⟩
abbrev S64x1408x1 : Shape := ⟨3, ![64, 1408, 1]⟩
abbrev S64x1408x8 : Shape := ⟨3, ![64, 1408, 8]⟩
abbrev S1024 : Shape := ⟨1, ![1024]⟩
abbrev S64 : Shape := ⟨1, ![64]⟩
abbrev S64x1 : Shape := ⟨2, ![64, 1]⟩
abbrev S1x1024 : Shape := ⟨2, ![1, 1024]⟩
abbrev S64x1024 : Shape := ⟨2, ![64, 1024]⟩
abbrev S11264x1x1024 : Shape := ⟨3, ![11264, 1, 1024]⟩
abbrev S8 : Shape := ⟨1, ![8]⟩
abbrev S1x8x1 : Shape := ⟨3, ![1, 8, 1]⟩
abbrev S11264x8x1024 : Shape := ⟨3, ![11264, 8, 1024]⟩
abbrev S128x1024x8 : Shape := ⟨3, ![128, 1024, 8]⟩
abbrev S128x8x1024 : Shape := ⟨3, ![128, 8, 1024]⟩
abbrev S128x1x1024 : Shape := ⟨3, ![128, 1, 1024]⟩
abbrev S128x1024 : Shape := ⟨2, ![128, 1024]⟩
abbrev S128x11264 : Shape := ⟨2, ![128, 11264]⟩

abbrev nBuf : Space → Nat
  | .hbm => 169
  | .vmem => 0
  | .smem => 0
  | _ => 0

abbrev hbmTy0_0 (i : Nat) : BufTy := match i % 128 with
  | 0 => ⟨S128x1x8192, .bf16⟩
  | 1 => ⟨S11264x1024, .i32⟩
  | 2 => ⟨S64x1408, .i32⟩
  | 3 => ⟨S64x11264, .bf16⟩
  | 4 => ⟨S_, .i32⟩
  | 5 => ⟨S64x1408, .i32⟩
  | 6 => ⟨S64x1408, .i32⟩
  | 7 => ⟨S_, .i32⟩
  | 8 => ⟨S64x1408, .i32⟩
  | 9 => ⟨S64x1408, .i32⟩
  | 10 => ⟨S_, .i32⟩
  | 11 => ⟨S64x1408, .i32⟩
  | 12 => ⟨S64x1408, .i32⟩
  | 13 => ⟨S_, .i32⟩
  | 14 => ⟨S64x1408, .i32⟩
  | 15 => ⟨S64x1408, .i32⟩
  | 16 => ⟨S_, .i32⟩
  | 17 => ⟨S64x1408, .i32⟩
  | 18 => ⟨S64x1408, .i32⟩
  | 19 => ⟨S_, .i32⟩
  | 20 => ⟨S64x1408, .i32⟩
  | 21 => ⟨S64x1408, .i32⟩
  | 22 => ⟨S_, .i32⟩
  | 23 => ⟨S64x1408, .i32⟩
  | 24 => ⟨S64x1408, .i32⟩
  | 25 => ⟨S_, .i32⟩
  | 26 => ⟨S64x1408, .i32⟩
  | 27 => ⟨S64x1408, .i32⟩
  | 28 => ⟨S_, .i32⟩
  | 29 => ⟨S64x1408, .i32⟩
  | 30 => ⟨S64x1408, .i32⟩
  | 31 => ⟨S_, .i32⟩
  | 32 => ⟨S64x1408, .i32⟩
  | 33 => ⟨S64x1408, .i32⟩
  | 34 => ⟨S_, .i32⟩
  | 35 => ⟨S64x1408, .i32⟩
  | 36 => ⟨S64x1408, .i32⟩
  | 37 => ⟨S_, .i32⟩
  | 38 => ⟨S64x1408, .i32⟩
  | 39 => ⟨S64x1408, .i32⟩
  | 40 => ⟨S_, .i32⟩
  | 41 => ⟨S64x1408, .i32⟩
  | 42 => ⟨S64x1408, .i32⟩
  | 43 => ⟨S_, .i32⟩
  | 44 => ⟨S64x1408, .i32⟩
  | 45 => ⟨S64x1408, .i32⟩
  | 46 => ⟨S_, .i32⟩
  | 47 => ⟨S64x1408, .i32⟩
  | 48 => ⟨S64x1408, .i32⟩
  | 49 => ⟨S_, .i32⟩
  | 50 => ⟨S64x1408, .i32⟩
  | 51 => ⟨S64x1408, .i32⟩
  | 52 => ⟨S64x1408x1, .i32⟩
  | 53 => ⟨S64x1408x1, .i32⟩
  | 54 => ⟨S64x1408x1, .i32⟩
  | 55 => ⟨S64x1408x1, .i32⟩
  | 56 => ⟨S64x1408x1, .i32⟩
  | 57 => ⟨S64x1408x1, .i32⟩
  | 58 => ⟨S64x1408x1, .i32⟩
  | 59 => ⟨S64x1408x1, .i32⟩
  | 60 => ⟨S64x1408x8, .i32⟩
  | 61 => ⟨S64x11264, .i32⟩
  | 62 => ⟨S64x11264, .bf16⟩
  | 63 => ⟨S1024, .i32⟩
  | 64 => ⟨S_, .i32⟩
  | 65 => ⟨S_, .i32⟩
  | 66 => ⟨S1024, .i32⟩
  | 67 => ⟨S1024, .i32⟩
  | 68 => ⟨S1024, .i32⟩
  | 69 => ⟨S_, .i32⟩
  | 70 => ⟨S1024, .i32⟩
  | 71 => ⟨S1024, .i1⟩
  | 72 => ⟨S1024, .i32⟩
  | 73 => ⟨S1024, .i32⟩
  | 74 => ⟨S_, .i32⟩
  | 75 => ⟨S1024, .i32⟩
  | 76 => ⟨S1024, .i1⟩
  | 77 => ⟨S1024, .i1⟩
  | 78 => ⟨S_, .i32⟩
  | 79 => ⟨S1024, .i32⟩
  | 80 => ⟨S1024, .i32⟩
  | 81 => ⟨S1024, .i32⟩
  | 82 => ⟨S64, .i32⟩
  | 83 => ⟨S64x1, .i32⟩
  | 84 => ⟨S1x1024, .i32⟩
  | 85 => ⟨S64x1024, .i32⟩
  | 86 => ⟨S64x1024, .i32⟩
  | 87 => ⟨S64x1024, .i1⟩
  | 88 => ⟨S64x1024, .f32⟩
  | 89 => ⟨S64x1024, .bf16⟩
  | 90 => ⟨S11264x1024, .f32⟩
  | 91 => ⟨S11264x1024, .bf16⟩
  | 92 => ⟨S11264x1x1024, .bf16⟩
  | 93 => ⟨S1024, .i32⟩
  | 94 => ⟨S_, .i32⟩
  | 95 => ⟨S_, .i32⟩
  | 96 => ⟨S1024, .i32⟩
  | 97 => ⟨S1024, .i32⟩
  | 98 => ⟨S1024, .i32⟩
  | 99 => ⟨S_, .i32⟩
  | 100 => ⟨S1024, .i32⟩
  | 101 => ⟨S1024, .i1⟩
  | 102 => ⟨S1024, .i32⟩
  | 103 => ⟨S1024, .i32⟩
  | 104 => ⟨S_, .i32⟩
  | 105 => ⟨S1024, .i32⟩
  | 106 => ⟨S1024, .i1⟩
  | 107 => ⟨S1024, .i1⟩
  | 108 => ⟨S_, .i32⟩
  | 109 => ⟨S1024, .i32⟩
  | 110 => ⟨S1024, .i32⟩
  | 111 => ⟨S1024, .i32⟩
  | 112 => ⟨S64, .i32⟩
  | 113 => ⟨S64x1, .i32⟩
  | 114 => ⟨S1x1024, .i32⟩
  | 115 => ⟨S64x1024, .i32⟩
  | 116 => ⟨S64x1024, .i32⟩
  | 117 => ⟨S64x1024, .i1⟩
  | 118 => ⟨S64x1024, .f32⟩
  | 119 => ⟨S64x1024, .bf16⟩
  | 120 => ⟨S11264x1024, .f32⟩
  | 121 => ⟨S11264x1024, .bf16⟩
  | 122 => ⟨S11264x1x1024, .bf16⟩
  | 123 => ⟨S8, .i32⟩
  | 124 => ⟨S_, .i32⟩
  | 125 => ⟨S8, .i32⟩
  | 126 => ⟨S8, .i32⟩
  | 127 => ⟨S1x8x1, .i32⟩
  | _ => ⟨S128x1x8192, .bf16⟩

abbrev hbmTy0_1 (i : Nat) : BufTy := match i % 128 with
  | 0 => ⟨S11264x1x1024, .i32⟩
  | 1 => ⟨S11264x8x1024, .i32⟩
  | 2 => ⟨S11264x8x1024, .i32⟩
  | 3 => ⟨S11264x8x1024, .i32⟩
  | 4 => ⟨S_, .i32⟩
  | 5 => ⟨S11264x8x1024, .i32⟩
  | 6 => ⟨S11264x8x1024, .i32⟩
  | 7 => ⟨S11264x8x1024, .bf16⟩
  | 8 => ⟨S11264x8x1024, .bf16⟩
  | 9 => ⟨S11264x8x1024, .bf16⟩
  | 10 => ⟨S11264x8x1024, .bf16⟩
  | 11 => ⟨S11264x8x1024, .bf16⟩
  | 12 => ⟨S128x1024x8, .bf16⟩
  | 13 => ⟨S128x8x1024, .bf16⟩
  | 14 => ⟨S128x1x1024, .bf16⟩
  | 15 => ⟨S128x1024, .bf16⟩
  | 16 => ⟨S128x1x1024, .bf16⟩
  | 17 => ⟨S128x1024, .bf16⟩
  | 18 => ⟨S128x1x1024, .bf16⟩
  | 19 => ⟨S128x1024, .bf16⟩
  | 20 => ⟨S128x1x1024, .bf16⟩
  | 21 => ⟨S128x1024, .bf16⟩
  | 22 => ⟨S128x1x1024, .bf16⟩
  | 23 => ⟨S128x1024, .bf16⟩
  | 24 => ⟨S128x1x1024, .bf16⟩
  | 25 => ⟨S128x1024, .bf16⟩
  | 26 => ⟨S128x1x1024, .bf16⟩
  | 27 => ⟨S128x1024, .bf16⟩
  | 28 => ⟨S128x1x1024, .bf16⟩
  | 29 => ⟨S128x1024, .bf16⟩
  | 30 => ⟨S128x1x1024, .bf16⟩
  | 31 => ⟨S128x1x1024, .bf16⟩
  | 32 => ⟨S128x1x1024, .bf16⟩
  | 33 => ⟨S128x1x1024, .bf16⟩
  | 34 => ⟨S128x1x1024, .bf16⟩
  | 35 => ⟨S128x1x1024, .bf16⟩
  | 36 => ⟨S128x1x1024, .bf16⟩
  | 37 => ⟨S128x1x1024, .bf16⟩
  | 38 => ⟨S128x8x1024, .bf16⟩
  | 39 => ⟨S128x11264, .f32⟩
  | 40 => ⟨S128x11264, .bf16⟩
  | _ => ⟨S128x1x8192, .bf16⟩

abbrev hbmTy (i : Nat) : BufTy := match i / 128 with
  | 0 => hbmTy0_0 i
  | 1 => hbmTy0_1 i
  | _ => ⟨S128x1x8192, .bf16⟩

abbrev bufTy : (tb : Table) → Fin (tcTables nBuf tb) → BufTy
  | .hbm, ⟨i, _⟩ => hbmTy i
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_c_10 : Ref sig .tc := ⟨.hbm, 37, rfl⟩
abbrev main_v22 : Ref sig .tc := ⟨.hbm, 38, rfl⟩
abbrev main_v23 : Ref sig .tc := ⟨.hbm, 39, rfl⟩
abbrev main_c_11 : Ref sig .tc := ⟨.hbm, 40, rfl⟩
abbrev main_v24 : Ref sig .tc := ⟨.hbm, 41, rfl⟩
abbrev main_v25 : Ref sig .tc := ⟨.hbm, 42, rfl⟩
abbrev main_c_12 : Ref sig .tc := ⟨.hbm, 43, rfl⟩
abbrev main_v26 : Ref sig .tc := ⟨.hbm, 44, rfl⟩
abbrev main_v27 : Ref sig .tc := ⟨.hbm, 45, rfl⟩
abbrev main_c_13 : Ref sig .tc := ⟨.hbm, 46, rfl⟩
abbrev main_v28 : Ref sig .tc := ⟨.hbm, 47, rfl⟩
abbrev main_v29 : Ref sig .tc := ⟨.hbm, 48, rfl⟩
abbrev main_c_14 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_15 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_c : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_0 : Ref sig .tc := ⟨.hbm, 78, rfl⟩
abbrev main_call0_v12 : Ref sig .tc := ⟨.hbm, 79, rfl⟩
abbrev main_call0_v13 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_16 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_c : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_c_0 : Ref sig .tc := ⟨.hbm, 108, rfl⟩
abbrev main_call1_v12 : Ref sig .tc := ⟨.hbm, 109, rfl⟩
abbrev main_call1_v13 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_17 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_18 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩

abbrev nD : Nat := 1
abbrev τ : Topo := Topo.v7x

variable {F : FTy → Type} [FloatOps F]
-- ==== Proof.Chunk.lean ====
/-
  What the kernel's body computes from its loads, written with the program's own operations: the weights of one
  1024 × 128 chunk (`chunk`), four chunks side by side (`chunk4`), and the block of the result (`block`): eight products
  added up. Nothing is proved about their values here; the run of the body is stated with these functions.
-/
module

public import proofs.«01_k».proof.KernelIdeal.P01

@[expose] public section

noncomputable section

namespace Cert.Awq

open Idealize.ShloMosaic Idealize.ShloMosaic.TcCoe Cert.KernelIdeal

variable {F : FTy → Type} [FloatOps F]

/-- The codes of a chunk: 128 columns of 128 words, turned so that a column of words runs down, every word repeated
    eight times, and row `k` holding field `k mod 8`, less eight. -/
def codes (q : IVec S128x128 32) : FVec F S1024x128 .bf16 :=
  sitofp .bf16 (shrsi
    (shli
      (shapeCast S1024x128 (broadcastTo S128x8x128 (shapeCast S128x1x128
        (xori (transpose S128x128 [1, 0] q (by decide)) (broadcast S128x128 2290649224#32)) (by decide)) (by decide)) (by decide))
      (shli (subi (broadcast S1024x128 7#32) (andi (iota .tc S1024x128 32 [0] (by decide)) (broadcast S1024x128 7#32)))
        (broadcast S1024x128 2#32)))
    (broadcast S1024x128 28#32))

/-- One row of a scratch array, repeated sixteen times. -/
def rows16 (v : Vec F S1x128 .f32) : FVec F S16x128 .bf16 :=
  truncf .bf16 (broadcastTo S16x128 (shapeCast S1x128 v (by decide)) (by decide)) (by decide)

theorem slice_ok (n : Fin 64) : S1024x128.Slices ![16 * n.val, 0] S16x128 := by
  revert n; decide +kernel

/-- Sixteen rows of a chunk's weights: the codes less the group's zero points, times the group's scales. -/
def piece (cd : FVec F S1024x128 .bf16) (z s : Fin 8 → Vec F S1x128 .f32) (n : Fin 64) : FVec F S16x128 .bf16 :=
  mulf (subf (extractStridedSlice S16x128 ![16 * n.val, 0] cd (slice_ok n)) (rows16 (z ⟨n.val / 8, by omega⟩)))
    (rows16 (s ⟨n.val / 8, by omega⟩))

theorem rows_ok {α : Type} (f : Fin 64 → S16x128.Idx → α) :
    Shape.Concatenates ((List.ofFn fun n : Fin 64 => (⟨S16x128, f n⟩ : (s : Shape) × (s.Idx → α))).map (·.1)) S1024x128 0 := by
  rw [List.map_ofFn, show ((fun x : (s : Shape) × (s.Idx → α) => x.1) ∘ fun n : Fin 64 => (⟨S16x128, f n⟩ : (s : Shape) × (s.Idx → α)))
    = fun _ => S16x128 from rfl, List.ofFn_const]
  decide +kernel

/-- The weights of a chunk, from its words and the zero points and scales of its eight groups. -/
def chunk (q : IVec S128x128 32) (z s : Fin 8 → Vec F S1x128 .f32) : FVec F S1024x128 .bf16 :=
  concatenate S1024x128 0 (List.ofFn fun n : Fin 64 => ⟨S16x128, piece (codes q) z s n⟩) (rows_ok _)

theorem cols_ok {α : Type} (f : Fin 4 → S1024x128.Idx → α) :
    Shape.Concatenates ((List.ofFn fun n : Fin 4 => (⟨S1024x128, f n⟩ : (s : Shape) × (s.Idx → α))).map (·.1)) S1024x512 1 := by
  rw [List.map_ofFn, show ((fun x : (s : Shape) × (s.Idx → α) => x.1) ∘ fun n : Fin 4 => (⟨S1024x128, f n⟩ : (s : Shape) × (s.Idx → α)))
    = fun _ => S1024x128 from rfl, List.ofFn_const]
  decide +kernel

/-- Four chunks side by side. -/
def chunk4 (q : Fin 4 → IVec S128x128 32) (z s : Fin 4 → Fin 8 → Vec F S1x128 .f32) : FVec F S1024x512 .bf16 :=
  concatenate S1024x512 1 (List.ofFn fun j : Fin 4 => ⟨S1024x128, chunk (q j) (z j) (s j)⟩) (cols_ok _)

/-- The products of the first `n` chunks' activations and weights, added up from zero. -/
def accum (x : Nat → Vec F S128x1024 .bf16) (w : Nat → FVec F S1024x512 .bf16) : Nat → FVec F S128x512 .f32
  | 0 => broadcast S128x512 (Scalar.ofBits .f32 0x00000000#32)
  | n + 1 => addf (accum x w n) (matmul (DotDims.plain 128 1024 512) none (x n) (w n) (constant S128x512 .f32 0x00000000#32))

/-- The block of the result. -/
def block (x : Nat → Vec F S128x1024 .bf16) (w : Nat → FVec F S1024x512 .bf16) : FVec F S128x512 .bf16 :=
  truncf .bf16 (accum x w 8) (by decide)

end Cert.Awq
-- ==== Proof.Words.lean ====
/-
  The four-bit fields of a 32-bit word, and the three ways the two programs take one out: the kernel's weight codes
  (flip each field's top bit, shift the field to the top, shift it down with its sign), the kernel's zero points
  (shift down, mask, subtract eight) and the reference's codes (shift down, mask).
-/
module

public import Idealize.ShloMosaic.Lib.ValueIdx

@[expose] public section

namespace Cert.Awq

/-- Field `i` (of eight) of a 32-bit word: its bits `4 i` to `4 i + 3`. -/
def field (w : BitVec 32) (i : Nat) : BitVec 4 := w.extractLsb' (4 * i) 4

/-- The bits of the mask of four ones. -/
theorem mask_bit {b : Nat} (hb : b < 32) : (15#32).getLsbD b = decide (b < 4) := by
  have : ∀ b : Fin 32, (15#32).getLsbD b.val = decide (b.val < 4) := by decide
  exact this ⟨b, hb⟩

/-- The number of field `i` of a word. -/
noncomputable def num (w : BitVec 32) (i : Nat) : ℝ := ((field w i).toNat : ℝ)

/-- A word shifted down to field `i` and masked is the field. -/
theorem sshiftRight_and (w : BitVec 32) (i : Nat) (hi : i < 8) :
    w.sshiftRight (4 * i) &&& 15#32 = (field w i).setWidth 32 := by
  apply BitVec.eq_of_getLsbD_eq
  intro b hb
  rw [BitVec.getLsbD_and, mask_bit hb, BitVec.getLsbD_sshiftRight, BitVec.getLsbD_setWidth, field, BitVec.getLsbD_extractLsb']
  by_cases h4 : b < 4
  · have h1 : 4 * i + b < 32 := by omega
    simp [h4, h1, hb, Nat.not_le.2 hb]
  · simp [h4]

/-- The same with the logical shift. -/
theorem ushiftRight_and (w : BitVec 32) (i : Nat) (_hi : i < 8) :
    (w >>> (4 * i)) &&& 15#32 = (field w i).setWidth 32 := by
  apply BitVec.eq_of_getLsbD_eq
  intro b hb
  rw [BitVec.getLsbD_and, mask_bit hb, BitVec.getLsbD_ushiftRight, BitVec.getLsbD_setWidth, field, BitVec.getLsbD_extractLsb']
  by_cases h4 : b < 4
  · simp [h4, hb]
  · simp [h4]

/-- Shifting field `i` to the top and down again with its sign extends the field with its sign. -/
theorem shl_sshiftRight (v : BitVec 32) (i : Nat) (hi : i < 8) :
    (v <<< (4 * (7 - i))).sshiftRight 28 = (field v i).signExtend 32 := by
  ext b hb
  simp only [field, ← BitVec.getLsbD_eq_getElem, BitVec.getLsbD_sshiftRight, BitVec.getLsbD_signExtend,
    BitVec.getLsbD_extractLsb', BitVec.getLsbD_shiftLeft, BitVec.msb_eq_getLsbD_last]
  by_cases h4 : b < 4
  · have h1 : 28 + b < 32 := by omega
    have h2 : ¬ 28 + b < 4 * (7 - i) := by omega
    have h3 : 28 + b - 4 * (7 - i) = 4 * i + b := by omega
    simp [h4, h1, hb, Nat.not_le.2 hb, h2, h3]
  · have h1 : ¬ 28 + b < 32 := by omega
    have h2 : ¬ 31 < 4 * (7 - i) := by omega
    have h3 : 31 - 4 * (7 - i) = 4 * i + 3 := by omega
    simp [h4, h1, hb, Nat.not_le.2 hb, h2, h3]

/-- Every field of the word `0x88888888` is eight. -/
theorem field_flip (w : BitVec 32) (i : Nat) (hi : i < 8) : field (w ^^^ 2290649224#32) i = field w i ^^^ 8#4 := by
  have h : ∀ i : Fin 8, field 2290649224#32 i.val = 8#4 := by decide
  have h' := h ⟨i, hi⟩
  rw [← h']
  ext b hb
  simp [field]

/-- The kernel's code of field `i`: the field read unsigned, less eight. -/
theorem kernel_code (w : BitVec 32) (i : Nat) (hi : i < 8) :
    (((w ^^^ 2290649224#32) <<< (4 * (7 - i))).sshiftRight 28).toInt = ((field w i).toNat : Int) - 8 := by
  rw [shl_sshiftRight _ _ hi, field_flip _ _ hi]
  generalize field w i = n
  revert n; decide

/-- The kernel's zero point from field `i`: the field read unsigned, less eight. -/
theorem kernel_zero (w : BitVec 32) (i : Nat) (hi : i < 8) :
    (((w >>> (4 * i)) &&& 15#32) - 8#32).toInt = ((field w i).toNat : Int) - 8 := by
  rw [ushiftRight_and _ _ hi]
  generalize field w i = n
  revert n; decide

/-- The reference's code of field `i`: the field read unsigned. -/
theorem ref_code (w : BitVec 32) (i : Nat) (hi : i < 8) :
    (w.sshiftRight (4 * i) &&& 15#32).toInt = ((field w i).toNat : Int) := by
  rw [sshiftRight_and _ _ hi]
  generalize field w i = n
  revert n; decide

/-- The order in which a word's fields hold the columns of a zero-point row: column `p` of a word's eight is field
    `order p`. -/
def order (p : Nat) : Nat := p / 2 + 4 * (p % 2)

/-- The order in which a word's fields hold the input features of a weight row: field `i` of a word belongs to feature
    `feature i` of its eight. -/
def feature (i : Nat) : Nat := 2 * (i % 4) + i / 4

theorem order_lt {p : Nat} (h : p < 8) : order p < 8 := by unfold order; omega
theorem feature_lt {i : Nat} (h : i < 8) : feature i < 8 := by unfold feature; omega

end Cert.Awq
-- ==== Proof.ChunkValue.lean ====
/-
  The values of a chunk of weights and of the block of the result over the extended reals.
-/
module

public import proofs.«01_k».proof.Proof.Words
public import proofs.«01_k».proof.Proof.Chunk
public import Idealize.ShloMosaic.Lib.Pipeline.Value
public import Idealize.ShloMosaic.Lib.Pointwise
public import Idealize.ShloMosaic.Lib.MatmulPlain

@[expose] public section

set_option maxRecDepth 16384

noncomputable section

namespace Cert.Awq

open Idealize.ShloMosaic Idealize.ShloMosaic.TcCoe Cert.KernelIdeal

theorem shift_amount : ∀ k : Fin 8, ((7#32 - BitVec.ofNat 32 k.val) <<< 2).toNat = 4 * (7 - k.val) := by decide

theorem low_bits (k : Nat) (hk : k < 2 ^ 32) : BitVec.ofNat 32 k &&& 7#32 = BitVec.ofNat 32 (k % 8) := by
  apply BitVec.eq_of_toNat_eq
  have h : k &&& 7 = k % 8 := Nat.and_two_pow_sub_one_eq_mod k 3
  have h8 : k % 8 < 2 ^ 32 := by omega
  simp only [BitVec.toNat_and, BitVec.toNat_ofNat]
  rw [Nat.mod_eq_of_lt hk, Nat.mod_eq_of_lt h8]
  exact h

/-- Row `k` of a chunk's codes: field `k mod 8` of word `k / 8` of the column, less eight. -/
theorem codes_apply (q : IVec S128x128 32) (k : Fin 1024) (y : Fin 128) :
    codes (F := Ideal) q (ix2 k y)
      = ((num (q (ix2 y ⟨k.val / 8, by omega⟩)) (k.val % 8) - 8 : ℝ) : EReal) := by
  unfold codes
  pointwise
  generalize q _ = w
  simp only [IntOp.andi, low_bits k.val (by omega)]
  have h8 : k.val % 8 < 8 := by omega
  have hs := shift_amount ⟨k.val % 8, h8⟩
  have hs' : IntOp.shli .vector (IntOp.subi 7#32 (BitVec.ofNat 32 (k.val % 8))) 2#32
      = BitVec.ofNat 32 (4 * (7 - k.val % 8)) := by
    apply BitVec.eq_of_toNat_eq
    have hl : 4 * (7 - k.val % 8) < 2 ^ 32 := by omega
    rw [BitVec.toNat_ofNat, Nat.mod_eq_of_lt hl]
    exact hs
  rw [hs']
  have e : IntOp.shrsi .vector (IntOp.shli .vector (IntOp.xori w 2290649224#32) (BitVec.ofNat 32 (4 * (7 - k.val % 8)))) 28#32
      = ((w ^^^ 2290649224#32) <<< (4 * (7 - k.val % 8))).sshiftRight 28 := by
    have hl : 4 * (7 - k.val % 8) < 2 ^ 32 := by omega
    have ht : (BitVec.ofNat 32 (4 * (7 - k.val % 8))).toNat = 4 * (7 - k.val % 8) := by
      rw [BitVec.toNat_ofNat, Nat.mod_eq_of_lt hl]
    unfold IntOp.shrsi IntOp.shli IntOp.xori
    rw [if_pos (by decide), if_pos (by rw [ht]; omega), BitVec.shiftLeft_eq', ht]
    rfl
  rw [e]
  show (((((w ^^^ 2290649224#32) <<< (4 * (7 - k.val % 8))).sshiftRight 28).toInt : ℝ) : EReal) = _
  rw [kernel_code w _ h8, num]
  push_cast
  rfl

/-- One of the sixteen equal rows. -/
theorem rows16_apply (v : Vec Ideal S1x128 .f32) (r : Fin 16) (y : Fin 128) : rows16 v (ix2 r y) = v (ix2 0 y) := by
  unfold rows16
  pointwise

theorem piece_apply (cd : FVec Ideal S1024x128 .bf16) (z s : Fin 8 → Vec Ideal S1x128 .f32) (n : Fin 64) (r : Fin 16) (y : Fin 128) :
    piece cd z s n (ix2 r y)
      = (cd (ix2 ⟨16 * n.val + r.val, by omega⟩ y) - z ⟨n.val / 8, by omega⟩ (ix2 0 y)) * s ⟨n.val / 8, by omega⟩ (ix2 0 y) := by
  unfold piece
  pointwise
  rw [rows16_apply, rows16_apply]

/-- A weight of a chunk: row `k` belongs to group `k / 128`. -/
theorem chunk_apply (q : IVec S128x128 32) (z s : Fin 8 → Vec Ideal S1x128 .f32) (k : Fin 1024) (y : Fin 128) :
    chunk q z s (ix2 k y)
      = (((num (q (ix2 y ⟨k.val / 8, by omega⟩)) (k.val % 8) - 8 : ℝ) : EReal) - z ⟨k.val / 128, by omega⟩ (ix2 0 y))
          * s ⟨k.val / 128, by omega⟩ (ix2 0 y) := by
  unfold chunk
  rw [concatenate_ofFn_apply (t := S1024x128) (s₁ := S16x128) 0 (fun n : Fin 64 => piece (codes q) z s n) _ rfl 16 rfl (ix2 k y : S1024x128.Idx) ⟨k.val / 16, by omega⟩ rfl
    (ix2 (⟨k.val % 16, by omega⟩ : Fin 16) y) rfl (fun b hb => by
      match b, hb with
      | ⟨0, _⟩, hb => exact absurd rfl hb
      | ⟨1, _⟩, _ => rfl)]
  rw [piece_apply, ← codes_apply]
  have h1 : (⟨16 * (k.val / 16) + k.val % 16, by omega⟩ : Fin 1024) = k := Fin.ext (by show 16 * (k.val / 16) + k.val % 16 = k.val; omega)
  have h2 : (⟨k.val / 16 / 8, by omega⟩ : Fin 8) = ⟨k.val / 128, by omega⟩ := Fin.ext (by show k.val / 16 / 8 = k.val / 128; omega)
  simp only [h1, h2]

/-- Column `y` of four chunks side by side is in chunk `y / 128`. -/
theorem chunk4_apply (q : Fin 4 → IVec S128x128 32) (z s : Fin 4 → Fin 8 → Vec Ideal S1x128 .f32) (k : Fin 1024) (y : Fin 512) :
    chunk4 q z s (ix2 k y)
      = chunk (q ⟨y.val / 128, by omega⟩) (z ⟨y.val / 128, by omega⟩) (s ⟨y.val / 128, by omega⟩)
          (ix2 k ⟨y.val % 128, by omega⟩) := by
  unfold chunk4
  exact concatenate_ofFn_apply (t := S1024x512) (s₁ := S1024x128) 1 (fun n : Fin 4 => chunk (q n) (z n) (s n)) _ rfl 128 rfl (ix2 k y : S1024x512.Idx) ⟨y.val / 128, by omega⟩ rfl
    (ix2 k (⟨y.val % 128, by omega⟩ : Fin 128)) rfl (fun b hb => by
      match b, hb with
      | ⟨0, _⟩, _ => rfl
      | ⟨1, _⟩, hb => exact absurd rfl hb)

theorem accum_apply (x : Nat → Vec Ideal S128x1024 .bf16) (w : Nat → FVec Ideal S1024x512 .bf16) (n : Nat) (t : Fin 128) (y : Fin 512) :
    accum x w n (ix2 t y) = ∑ i ∈ Finset.range n, ∑ k : Fin 1024, (x i (ix2 t k) : EReal) * w i (ix2 k y) := by
  induction n with
  | zero =>
    rw [Finset.sum_range_zero]
    show Scalar.ofBits (F := Ideal) .f32 0x00000000#32 = 0
    exact Ideal.ofBits_zero_f32
  | succ n ih =>
    rw [Finset.sum_range_succ, ← ih]
    show accum x w n (ix2 t y) + FloatOps.matmul (DotDims.plain 128 1024 512) none (x n) (w n) (constant S128x512 .f32 0x00000000#32) (ix2 t y) = _
    refine congrArg (accum x w n (ix2 t y) + ·) ?_
    refine (Ideal.matmul_plain_apply none (x n) (w n) _ t y).trans ?_
    rw [show (constant S128x512 .f32 0x00000000#32 : FVec Ideal S128x512 .f32) (ValueIdx.ix2 t y) = (0 : EReal) from Ideal.ofBits_zero_f32, zero_add]
    rfl

/-- The block of the result, eight sums of 1024 products. -/
theorem block_apply (x : Nat → Vec Ideal S128x1024 .bf16) (w : Nat → FVec Ideal S1024x512 .bf16) (t : Fin 128) (y : Fin 512) :
    block x w (ix2 t y) = ∑ i ∈ Finset.range 8, ∑ k : Fin 1024, (x i (ix2 t k) : EReal) * w i (ix2 k y) :=
  accum_apply x w 8 t y

end Cert.Awq
-- ==== Proof.Permute.lean ====
/-
  The activations' reordering. The kernel multiplies each 256 columns of `x` by a matrix of zeros and ones with a single one
  in each column, which puts the eight features of every word into the order of the word's fields.
-/
module

public import proofs.«01_k».proof.Proof.Words
public import proofs.«01_k».proof.Proof.ChunkValue

@[expose] public section

set_option maxRecDepth 16384

noncomputable section

namespace Cert.Awq

open Idealize.ShloMosaic Idealize.ShloMosaic.TcCoe Cert.KernelIdeal

variable {F : FTy → Type} [FloatOps F]

/-- The column a column of the reordered activations takes. -/
def srcCols : IVec S256x256 32 :=
  addi (addi (andi (iota .tc S256x256 32 [1] (by decide)) (broadcast S256x256 4294967288#32))
      (shli (andi (andi (iota .tc S256x256 32 [1] (by decide)) (broadcast S256x256 7#32)) (broadcast S256x256 3#32)) (broadcast S256x256 1#32)))
    (shrsi (andi (iota .tc S256x256 32 [1] (by decide)) (broadcast S256x256 7#32)) (broadcast S256x256 2#32))

/-- The matrix of zeros and ones. -/
def perm : FVec F S256x256 .bf16 :=
  truncf .bf16 (sitofp .f32 (extui 32 (cmpi .eq (iota .tc S256x256 32 [0] (by decide)) srcCols) (by decide))) (by decide)

/-- 256 reordered columns. -/
def reorder (x : Vec F S128x256 .bf16) : FVec F S128x256 .bf16 :=
  shapeCast S128x256 (truncf .bf16 (matmul (DotDims.plain 128 256 256) none (shapeCast S128x256 x (by decide)) perm
    (constant S128x256 .f32 0x00000000#32)) (by decide)) (by decide)

/-- The source of column `y`. -/
def src (y : Nat) : Nat := 8 * (y / 8) + feature (y % 8)

/-- The same, as the kernel computes it. -/
def srcWord (y : Nat) : BitVec 32 :=
  IntOp.addi (IntOp.addi (IntOp.andi (BitVec.ofNat 32 y) 4294967288#32)
      (IntOp.shli .vector (IntOp.andi (IntOp.andi (BitVec.ofNat 32 y) 7#32) 3#32) 1#32))
    (IntOp.shrsi .vector (IntOp.andi (BitVec.ofNat 32 y) 7#32) 2#32)

theorem srcWord_eq : ∀ y : Fin 256, srcWord y.val = BitVec.ofNat 32 (src y.val) := by decide +kernel

theorem src_lt {n y : Nat} (hn : n % 8 = 0) (h : y < n) : src y < n := by unfold src feature; omega

theorem bit_toInt (b : Bool) : ((BitVec.ofBool b).setWidth 32).toInt = if b then 1 else 0 := by revert b; decide

theorem perm_apply (k y : Fin 256) : perm (F := Ideal) (ix2 k y) = if k.val = src y.val then (1 : EReal) else 0 := by
  unfold perm srcCols
  pointwise
  have e : IntOp.cmpi .eq (BitVec.ofNat 32 k.val) (srcWord y.val) = BitVec.ofBool (decide (k.val = src y.val)) := by
    have hy := src_lt (n := 256) rfl y.isLt
    rw [srcWord_eq]
    unfold IntOp.cmpi
    refine congrArg BitVec.ofBool ?_
    rw [Bool.eq_iff_iff, beq_iff_eq, decide_eq_true_iff]
    constructor
    · intro h
      have := congrArg BitVec.toNat h
      rw [BitVec.toNat_ofNat, BitVec.toNat_ofNat] at this
      omega
    · intro h; rw [h]
  refine (congrArg (fun b : BitVec 1 => (((b.setWidth 32).toInt : ℝ) : EReal)) e).trans ?_
  show ((((BitVec.ofBool (decide (k.val = src y.val))).setWidth 32).toInt : ℝ) : EReal) = _
  rw [bit_toInt]
  by_cases h : k.val = src y.val
  · simp [h]
  · simp [h]

/-- A reordered column is the column at its source. -/
theorem reorder_apply (x : Vec Ideal S128x256 .bf16) (t : Fin 128) (y : Fin 256) :
    reorder x (ix2 t y) = x (ix2 t ⟨src y.val, src_lt rfl y.isLt⟩) := by
  unfold reorder
  pointwise
  rw [Finset.sum_eq_single (⟨src y.val, src_lt rfl y.isLt⟩ : Fin 256)]
  · rw [perm_apply, if_pos rfl, mul_one]
  · intro k _ hk
    rw [perm_apply, if_neg (fun h => hk (Fin.ext h)), mul_zero]
  · intro h; exact absurd (Finset.mem_univ _) h

end Cert.Awq
-- ==== Proof.Zeros.lean ====
/-
  The zero points of one block of 512 columns as the kernel's body decodes them, 128 columns at a time: lane `y` of part `j`
  gathers word `y / 8 + base + 16 j` of the row, shifts field `order (y mod 8)` down, masks it and takes eight away.
-/
module

public import proofs.«01_k».proof.Proof.Words
public import proofs.«01_k».proof.Proof.ChunkValue

@[expose] public section

set_option maxRecDepth 16384

noncomputable section

namespace Cert.Awq

open Idealize.ShloMosaic Idealize.ShloMosaic.TcCoe Cert.KernelIdeal

variable {F : FTy → Type} [FloatOps F]

/-- The lane number. -/
def lane : IVec S64x128 32 := iota .tc S64x128 32 [1] (by decide)

/-- How far each lane's word is shifted. -/
def shifts : IVec S64x128 32 :=
  shli (addi (shrsi (andi lane (broadcast S64x128 7#32)) (broadcast S64x128 1#32))
    (shli (andi (andi lane (broadcast S64x128 7#32)) (broadcast S64x128 1#32)) (broadcast S64x128 2#32))) (broadcast S64x128 2#32)

/-- The first word of the block at grid point `p`: an even point's columns are in the first 64 words of its 128, an odd
    point's in the last. -/
def base (p : Nat) : BitVec 32 :=
  let v21 : BitVec 32 := Scalar.select (Scalar.cmpi .eq 2#32 0#32) 1#32 2#32
  let v22 : BitVec 32 := Scalar.remsi (BitVec.ofNat 32 p) v21
  Scalar.muli (Scalar.select (Scalar.andi (Scalar.xori (Scalar.cmpi .slt v22 0#32) (Scalar.cmpi .slt v21 0#32)) (Scalar.cmpi .ne v22 0#32))
    (Scalar.addi v22 v21) v22) 64#32

/-- The number of the word each lane reads. -/
def wordIdx (b off : BitVec 32) : IVec S64x128 32 := addi (shrsi lane (broadcast S64x128 3#32)) (broadcast S64x128 (Scalar.addi b off))

/-- The word each lane reads (a negative number would count from the end). -/
def words (b off : BitVec 32) (w : IVec S64x128 32) : IVec S64x128 32 :=
  dynamicGather 1 w (shapeCast S64x128 (shapeCast S64x128x1
    (select (cmpi .slt (wordIdx b off) (broadcast S64x128 0#32)) (addi (wordIdx b off) (broadcast S64x128 128#32)) (wordIdx b off))
    (by decide)) (by decide))

/-- The zero points of one part. -/
def zeros (b off : BitVec 32) (w : IVec S64x128 32) : FVec F S64x128 .f32 :=
  shapeCast S64x128 (sitofp .f32 (subi (andi (shrui (words b off w) shifts) (broadcast S64x128 15#32)) (broadcast S64x128 8#32))) (by decide)

theorem base_eq : ∀ p : Fin 22, base p.val = BitVec.ofNat 32 (64 * (p.val % 2)) := by decide

/-- A lane's word number, with the grid point's parity, the part and the lane for variables. -/
def idxWord (e j y : Nat) : BitVec 32 :=
  let v := IntOp.addi (IntOp.shrsi .vector (BitVec.ofNat 32 y) 3#32) (Scalar.addi (BitVec.ofNat 32 (64 * e)) (BitVec.ofNat 32 (16 * j)))
  Scalar.select (IntOp.cmpi .slt v 0#32) (IntOp.addi v 128#32) v

theorem idxWord_eq : ∀ (e : Fin 2) (j : Fin 4) (y : Fin 128), (idxWord e.val j.val y.val).toNat = 64 * e.val + 16 * j.val + y.val / 8 := by
  decide +kernel

/-- A lane's shift. -/
def shiftWord (y : Nat) : BitVec 32 :=
  IntOp.shli .vector (IntOp.addi (IntOp.shrsi .vector (IntOp.andi (BitVec.ofNat 32 y) 7#32) 1#32)
    (IntOp.shli .vector (IntOp.andi (IntOp.andi (BitVec.ofNat 32 y) 7#32) 1#32) 2#32)) 2#32

theorem shiftWord_eq : ∀ y : Fin 128, (shiftWord y.val).toNat = 4 * order (y.val % 8) := by decide +kernel

theorem shifts_apply (g : Fin 64) (y : Fin 128) : shifts (ix2 g y) = shiftWord y.val := by
  unfold shifts lane
  pointwise
  rfl

theorem words_apply (p : Fin 22) (j : Fin 4) (w : IVec S64x128 32) (g : Fin 64) (y : Fin 128) :
    words (base p.val) (BitVec.ofNat 32 (16 * j.val)) w (ix2 g y)
      = w (ix2 g ⟨64 * (p.val % 2) + 16 * j.val + y.val / 8, by omega⟩) := by
  unfold words wordIdx lane dynamicGather
  rw [base_eq]
  have h := idxWord_eq ⟨p.val % 2, by omega⟩ j y
  refine congrArg w (funext fun a => ?_)
  match a with
  | ⟨0, _⟩ => rfl
  | ⟨1, _⟩ =>
    apply Fin.ext
    show BitVec.toNat _ % 128 = _
    have e : (shapeCast S64x128 (shapeCast S64x128x1
        (select (cmpi .slt (addi (shrsi (iota .tc S64x128 32 [1] (by decide)) (broadcast S64x128 3#32))
          (broadcast S64x128 (Scalar.addi (BitVec.ofNat 32 (64 * (p.val % 2))) (BitVec.ofNat 32 (16 * j.val))))) (broadcast S64x128 0#32))
          (addi (addi (shrsi (iota .tc S64x128 32 [1] (by decide)) (broadcast S64x128 3#32))
          (broadcast S64x128 (Scalar.addi (BitVec.ofNat 32 (64 * (p.val % 2))) (BitVec.ofNat 32 (16 * j.val))))) (broadcast S64x128 128#32))
          (addi (shrsi (iota .tc S64x128 32 [1] (by decide)) (broadcast S64x128 3#32))
          (broadcast S64x128 (Scalar.addi (BitVec.ofNat 32 (64 * (p.val % 2))) (BitVec.ofNat 32 (16 * j.val))))))
        (by decide)) (by decide) : IVec S64x128 32) (ix2 g y) = idxWord (p.val % 2) j.val y.val := by
      pointwise
      rfl
    refine (congrArg (fun v : BitVec 32 => v.toNat % 128) e).trans ?_
    show (idxWord (p.val % 2) j.val y.val).toNat % 128 = 64 * (p.val % 2) + 16 * j.val + y.val / 8
    rw [show (idxWord (p.val % 2) j.val y.val).toNat = 64 * (p.val % 2) + 16 * j.val + y.val / 8 from h]
    omega

/-- The zero point of group `g` and column `128 j + y` of the block: field `order (y mod 8)` of its word, less eight. -/
theorem zeros_apply (p : Fin 22) (j : Fin 4) (w : IVec S64x128 32) (g : Fin 64) (y : Fin 128) :
    zeros (F := Ideal) (base p.val) (BitVec.ofNat 32 (16 * j.val)) w (ix2 g y)
      = ((num (w (ix2 g ⟨64 * (p.val % 2) + 16 * j.val + y.val / 8, by omega⟩)) (order (y.val % 8)) - 8 : ℝ) : EReal) := by
  unfold zeros
  pointwise
  rw [words_apply, shifts_apply]
  generalize w _ = v
  have h8 : order (y.val % 8) < 8 := order_lt (by omega)
  have hs := shiftWord_eq y
  have e : IntOp.subi (IntOp.andi (IntOp.shrui .vector v (shiftWord y.val)) 15#32) 8#32 = ((v >>> (4 * order (y.val % 8))) &&& 15#32) - 8#32 := by
    unfold IntOp.subi IntOp.andi IntOp.shrui
    rw [if_pos (by rw [hs]; omega), BitVec.ushiftRight_eq', hs]
  rw [e]
  show (((((v >>> (4 * order (y.val % 8))) &&& 15#32) - 8#32).toInt : ℝ) : EReal) = _
  rw [kernel_zero v _ h8, num]
  push_cast
  rfl

end Cert.Awq
-- ==== Proof.Body.lean ====
/-
  The run of the body, in both of its cases, stores `block` of its loads: the rectangles it loads are named here, and the
  run's own term is `block` of them by unfolding.
-/
module

public import proofs.«01_k».proof.Proof.Gen.KernelIdeal.Frame.RunB
public import proofs.«01_k».proof.Proof.Chunk
public import proofs.«01_k».proof.Proof.Permute
public import proofs.«01_k».proof.Proof.Zeros

@[expose] public section

set_option maxRecDepth 16384

noncomputable section

namespace Cert.Awq

open Idealize.ShloMosaic Idealize.ShloMosaic.TcCoe Cert.KernelIdeal Cert.KernelIdeal.Gen

variable {F : FTy → Type} [FloatOps F]

/-- The words of chunk `n` and column block `j`. -/
def qRect (n : Nat) (j : Fin 4) : Rect S512x1024 :=
  Rect.unit ![128 * j.val, 128 * (n % 8)] S128x128.size (by
    intro a; match a with
    | ⟨0, _⟩ => show 128 * j.val + 128 ≤ 512; omega
    | ⟨1, _⟩ => show 128 * (n % 8) + 128 ≤ 1024; omega)

/-- The row of a scratch array for group `g` of chunk `n`, column block `j`. -/
def rowRect (n : Nat) (j : Fin 4) (g : Fin 8) : Rect S64x512 :=
  Rect.unit ![8 * (n % 8) + g.val, 128 * j.val] S1x128.size (by
    intro a; match a with
    | ⟨0, _⟩ => show 8 * (n % 8) + g.val + 1 ≤ 64; omega
    | ⟨1, _⟩ => show 128 * j.val + 128 ≤ 512; omega)

/-- The columns of the reordered activations that chunk `n` multiplies. -/
def xRect (n : Nat) : Rect S128x8192 :=
  Rect.unit ![0, 1024 * (n % 8)] S128x1024.size (by
    intro a; match a with
    | ⟨0, _⟩ => show 0 + 128 ≤ 128; omega
    | ⟨1, _⟩ => show 1024 * (n % 8) + 1024 ≤ 8192; omega)

variable (c : Dev nD) (i : grid0.Coords) (arg1 : Memref sig .tc .vmem S128x8192 .bf16) (harg1 : arg1.IsWhole)
  (arg2 : Memref sig .tc .vmem S512x1024 .i32) (harg2 : arg2.IsWhole) (arg3 : Memref sig .tc .vmem S64x128 .i32) (harg3 : arg3.IsWhole)
  (arg4 : Memref sig .tc .vmem S64x512 .bf16) (harg4 : arg4.IsWhole) (arg5 : Memref sig .tc .vmem S128x512 .bf16) (harg5 : arg5.IsWhole)
  (arg6 : Memref sig .tc .vmem S128x8192 .bf16) (harg6 : arg6.IsWhole) (arg7 : Memref sig .tc .vmem S64x512 .f32) (harg7 : arg7.IsWhole)
  (arg8 : Memref sig .tc .vmem S64x512 .f32) (harg8 : arg8.IsWhole)
  (x0 : Vec F S128x8192 .bf16) (x1 : Vec F S512x1024 .i32) (x2 : Vec F S64x128 .i32) (x3 : Vec F S64x512 .bf16)

/-! ## What is stored in the scratch arrays, the last store first -/

/-- 256 columns of the activations. -/
def actRect (k : Fin 32) : Rect S128x8192 :=
  Rect.unit ![0, 256 * (31 - k.val)] S128x256.size (by
    intro a; match a with
    | ⟨0, _⟩ => show 0 + 128 ≤ 128; omega
    | ⟨1, _⟩ => show 256 * (31 - k.val) + 256 ≤ 8192; omega)

/-- 128 columns of the zero points. -/
def zeroRect (k : Fin 4) : Rect S64x512 :=
  Rect.unit ![0, 128 * (3 - k.val)] S64x128.size (by
    intro a; match a with
    | ⟨0, _⟩ => show 0 + 64 ≤ 64; omega
    | ⟨1, _⟩ => show 128 * (3 - k.val) + 128 ≤ 512; omega)

/-- The reordered activations, 256 columns at a time. -/
def actPieces : List (View.Piece (Elt F) S128x8192 .bf16) :=
  List.ofFn fun k : Fin 32 => ⟨actRect k, reorder (arg1.view.readAt (Elt F) (actRect k).toLoadRect (harg1.unread x0))⟩

/-- The zero points, 128 columns at a time. -/
def zeroPieces : List (View.Piece (Elt F) S64x512 .f32) :=
  List.ofFn fun k : Fin 4 => ⟨zeroRect k, zeros (base (i 0).val) (BitVec.ofNat 32 (16 * (3 - k.val)))
    (arg3.view.readAt (Elt F) (Rect.unit ![0, 0] S64x128.size (by decide)).toLoadRect (harg3.unread x2))⟩

/-- The scales, whole. -/
def scalePieces : List (View.Piece (Elt F) S64x512 .f32) :=
  [⟨Rect.unit ![0, 0] S64x512.size (by decide), shapeCast S64x512 (extf .f32
    (arg4.view.readAt (Elt F) (Rect.unit ![0, 0] S64x512.size (by decide)).toLoadRect (harg4.unread x3)) (by decide)) (by decide)⟩]

/-- What the first grid point stores in the scratch array that is kept. -/
theorem acts_A (hc0 : cond0_0 i) :
    (kernelRun0_A c i arg1 harg1 arg2 harg2 arg3 harg3 arg4 harg4 arg5 harg5 arg6 harg6 arg7 harg7 arg8 harg8 hc0 x0 x1 x2 x3).2.1 = actPieces arg1 harg1 x0 := by
  unfold kernelRun0_A
  dsimp only
  rfl

/-! ## What is stored in the result -/

/-- The weights of chunk `n`, from the words loaded and what the two scratch arrays hold. -/
def weights (zs ss : List (View.Piece (Elt F) S64x512 .f32)) (n : Nat) : FVec F S1024x512 .bf16 :=
  chunk4 (fun j => arg2.view.readAt (Elt F) (qRect n j).toLoadRect (harg2.unread x1))
    (fun j g => arg7.view.readCov zs (rowRect n j g).toLoadRect) (fun j g => arg8.view.readCov ss (rowRect n j g).toLoadRect)

/-- At the first grid point the body stores `block` of what it loads. -/
theorem body_A (hc0 : cond0_0 i) :
    (kernelRun0_A c i arg1 harg1 arg2 harg2 arg3 harg3 arg4 harg4 arg5 harg5 arg6 harg6 arg7 harg7 arg8 harg8 hc0 x0 x1 x2 x3).1
      = [⟨Rect.unit ![0, 0] S128x512.size (by decide), block
          (fun n => arg6.view.readCov (actPieces arg1 harg1 x0) (xRect n).toLoadRect)
          (weights arg2 harg2 arg7 arg8 x1 (zeroPieces i arg3 harg3 x2) (scalePieces arg4 harg4 x3))⟩] := by
  unfold kernelRun0_A
  dsimp only
  rfl

/-- At every later point likewise, the reordered activations being what the scratch array held before. -/
theorem body_B (xs0 : Vec F S128x8192 .bf16) (hc0 : ¬cond0_0 i) :
    (kernelRun0_B c i arg1 harg1 arg2 harg2 arg3 harg3 arg4 harg4 arg5 harg5 arg6 harg6 arg7 harg7 arg8 harg8 hc0 x0 x1 x2 x3 xs0).1
      = [⟨Rect.unit ![0, 0] S128x512.size (by decide), block
          (fun n => arg6.view.readAt (Elt F) (xRect n).toLoadRect (harg6.unread xs0))
          (weights arg2 harg2 arg7 arg8 x1 (zeroPieces i arg3 harg3 x2) (scalePieces arg4 harg4 x3))⟩] := by
  unfold kernelRun0_B
  dsimp only
  rfl

end Cert.Awq
-- ==== Proof.BodyValue.lean ====
/-
  What the body's loads hold at each index: a row of the zero points, a row of the scales, the reordered activations; and
  with them the block a grid point stores, as a sum.
-/
module

public import proofs.«01_k».proof.Proof.Body
public import Idealize.ShloMosaic.Lib.Pipeline.Value
public import Idealize.ShloMosaic.Lib.Pipeline.ValueKit.Tiles
public import Idealize.ShloMosaic.Lib.WholeRead

@[expose] public section

set_option maxRecDepth 16384

noncomputable section

namespace Cert.Awq

open Idealize.ShloMosaic Idealize.ShloMosaic.TcCoe Cert.KernelIdeal Cert.KernelIdeal.Gen

variable (i : grid0.Coords) (arg1 : Memref sig .tc .vmem S128x8192 .bf16) (harg1 : arg1.IsWhole)
  (arg2 : Memref sig .tc .vmem S512x1024 .i32) (harg2 : arg2.IsWhole) (arg3 : Memref sig .tc .vmem S64x128 .i32) (harg3 : arg3.IsWhole)
  (arg4 : Memref sig .tc .vmem S64x512 .bf16) (harg4 : arg4.IsWhole)
  (arg6 : Memref sig .tc .vmem S128x8192 .bf16) (harg6 : arg6.IsWhole) (arg7 : Memref sig .tc .vmem S64x512 .f32)
  (arg8 : Memref sig .tc .vmem S64x512 .f32)
  (x0 : Vec Ideal S128x8192 .bf16) (x1 : Vec Ideal S512x1024 .i32) (x2 : Vec Ideal S64x128 .i32) (x3 : Vec Ideal S64x512 .bf16)

/-- The index a box of unit stride reads. -/
theorem unit_idx {m n : Nat} (off size : Fin 2 → Nat) (inb : ∀ a, off a + size a ≤ (⟨2, ![m, n]⟩ : Shape).size a)
    (x : (Rect.unit (s := ⟨2, ![m, n]⟩) off size inb).shape.Idx) (u : Fin m) (v : Fin n)
    (hu : u.val = off 0 + (x 0).val) (hv : v.val = off 1 + (x 1).val) :
    (Rect.unit (s := ⟨2, ![m, n]⟩) off size inb).toLoadRect.idx x = ix2 u v := by
  funext a
  apply Fin.ext
  match a with
  | ⟨0, h⟩ => have e := Rect.idx_unit_val off size inb x ⟨0, h⟩; exact e.trans hu.symm
  | ⟨1, h⟩ => have e := Rect.idx_unit_val off size inb x ⟨1, h⟩; exact e.trans hv.symm

/-- The zero points held at a group and a column. -/
theorem zeroPieces_apply (p : Fin 22) (hp : (i 0).val = p.val) (g : Fin 64) (y : Fin 512) :
    View.canon (zeroPieces (F := Ideal) i arg3 harg3 x2) (ix2 g y)
      = ((num (x2 (ix2 g ⟨64 * (p.val % 2) + y.val / 8, by omega⟩)) (order (y.val % 8)) - 8 : ℝ) : EReal) := by
  unfold zeroPieces
  refine View.canon_ofFn_unit_eq_of_forall (S := S64x512) (fun k : Fin 4 => ![0, 128 * (3 - k.val)]) S64x128.size _ _ _ _
    ⟨⟨3 - y.val / 128, by omega⟩, ?_⟩ fun k x hx => ?_
  · intro a
    match a with
    | ⟨0, _⟩ => show 0 ≤ g.val ∧ g.val < 0 + 64; omega
    | ⟨1, _⟩ => show 128 * (3 - (3 - y.val / 128)) ≤ y.val ∧ y.val < 128 * (3 - (3 - y.val / 128)) + 128; omega
  · have h0 : g.val = 0 + (x 0).val := hx 0
    have h1 : y.val = 128 * (3 - k.val) + (x 1).val := hx 1
    obtain ⟨yy, rfl⟩ : ∃ yy : Fin 128, x = ix2 g yy := ⟨x 1, by
      funext a
      match a with
      | ⟨0, _⟩ => apply Fin.ext; show (x 0).val = g.val; omega
      | ⟨1, _⟩ => rfl⟩
    replace h1 : y.val = 128 * (3 - k.val) + yy.val := h1
    rw [hp]
    refine (zeros_apply p ⟨3 - k.val, by omega⟩ _ g yy).trans ?_
    rw [harg3.readAt_unread]
    have e : (Rect.unit (s := S64x128) ![0, 0] S64x128.size (by decide)).toLoadRect.idx
        (ix2 g ⟨64 * (p.val % 2) + 16 * (3 - k.val) + yy.val / 8, by omega⟩) = ix2 g ⟨64 * (p.val % 2) + y.val / 8, by omega⟩ := by
      refine unit_idx _ _ _ _ _ _ ?_ ?_
      · show g.val = 0 + g.val; omega
      · show 64 * (p.val % 2) + y.val / 8 = 0 + (64 * (p.val % 2) + 16 * (3 - k.val) + yy.val / 8)
        omega
    have e8 : yy.val % 8 = y.val % 8 := by omega
    rw [e8]
    exact congrArg (fun z => ((num (x2 z) (order (y.val % 8)) - 8 : ℝ) : EReal)) e

/-- The scales held. -/
theorem scalePieces_apply (g : Fin 64) (y : Fin 512) :
    View.canon (scalePieces (F := Ideal) arg4 harg4 x3) (ix2 g y) = x3 (ix2 g y) := by
  unfold scalePieces
  rw [View.canon_unit_zero (by funext a; match a with | ⟨0, _⟩ => rfl | ⟨1, _⟩ => rfl)]
  pointwise
  rw [harg4.readAt_unread]
  refine congrArg x3 (unit_idx _ _ _ _ _ _ ?_ ?_)
  · show g.val = 0 + g.val; omega
  · show y.val = 0 + y.val; omega

/-- The reordered activations held. -/
theorem actPieces_apply (t : Fin 128) (y : Fin 8192) :
    View.canon (actPieces arg1 harg1 x0) (ix2 t y) = x0 (ix2 t ⟨src y.val, src_lt rfl y.isLt⟩) := by
  unfold actPieces
  refine View.canon_ofFn_unit_eq_of_forall (S := S128x8192) (fun k : Fin 32 => ![0, 256 * (31 - k.val)]) S128x256.size _ _ _ _
    ⟨⟨31 - y.val / 256, by omega⟩, ?_⟩ fun k x hx => ?_
  · intro a
    match a with
    | ⟨0, _⟩ => show 0 ≤ t.val ∧ t.val < 0 + 128; omega
    | ⟨1, _⟩ => show 256 * (31 - (31 - y.val / 256)) ≤ y.val ∧ y.val < 256 * (31 - (31 - y.val / 256)) + 256; omega
  · have h0 : t.val = 0 + (x 0).val := hx 0
    have h1 : y.val = 256 * (31 - k.val) + (x 1).val := hx 1
    obtain ⟨yy, rfl⟩ : ∃ yy : Fin 256, x = ix2 t yy := ⟨x 1, by
      funext a
      match a with
      | ⟨0, _⟩ => apply Fin.ext; show (x 0).val = t.val; omega
      | ⟨1, _⟩ => rfl⟩
    replace h1 : y.val = 256 * (31 - k.val) + yy.val := h1
    refine (reorder_apply _ t yy).trans ?_
    refine (harg1.readAt_unread x0 _ _).trans (congrArg x0 (unit_idx _ _ _ _ _ _ ?_ ?_))
    · show t.val = 0 + t.val; omega
    · show src y.val = 256 * (31 - k.val) + src yy.val
      unfold src feature
      omega

/-- A column of the block, as a sum over the chunks and their rows: `X` the reordered activations, `q`, `z`, `s` the
    point's blocks of words, zero points and scales. -/
def blockSum (X : Vec Ideal S128x8192 .bf16) (q : Vec Ideal S512x1024 .i32) (z : Vec Ideal S64x128 .i32) (s : Vec Ideal S64x512 .bf16)
    (p : Nat) (t : Fin 128) (y : Fin 512) : EReal :=
  ∑ a : Fin 8, ∑ k : Fin 1024, X (ix2 t ⟨1024 * a.val + k.val, by omega⟩)
    * ((((num (q (ix2 y ⟨128 * a.val + k.val / 8, by omega⟩)) (k.val % 8) - 8 : ℝ) : EReal)
        - ((num (z (ix2 ⟨8 * a.val + k.val / 128, by omega⟩ ⟨64 * (p % 2) + y.val / 8, by omega⟩)) (order (y.val % 8)) - 8 : ℝ) : EReal))
      * s (ix2 ⟨8 * a.val + k.val / 128, by omega⟩ y))

/-- The block of the body's loads, when the activations' loads hold `X`. -/
theorem block_weights (X : Vec Ideal S128x8192 .bf16) (xs : Nat → Vec Ideal S128x1024 .bf16)
    (hxs : ∀ n (t : Fin 128) (k : Fin 1024), xs n (ix2 t k) = X (ix2 t ⟨1024 * (n % 8) + k.val, by omega⟩))
    (p : Fin 22) (hp : (i 0).val = p.val) (t : Fin 128) (y : Fin 512) :
    block xs (weights arg2 harg2 arg7 arg8 x1 (zeroPieces i arg3 harg3 x2) (scalePieces arg4 harg4 x3)) (ix2 t y)
      = blockSum X x1 x2 x3 p.val t y := by
  rw [block_apply, Finset.sum_range]
  refine Finset.sum_congr rfl fun a _ => Finset.sum_congr rfl fun k _ => ?_
  have ha : a.val % 8 = a.val := Nat.mod_eq_of_lt a.isLt
  refine congrArg₂ (· * ·) ((hxs a.val t k).trans (congrArg X ?_)) ?_
  · congr 1; apply Fin.ext; show 1024 * (a.val % 8) + k.val = _; rw [ha]
  unfold weights
  refine (chunk4_apply _ _ _ k y).trans ((chunk_apply _ _ _ k _).trans ?_)
  have hk := k.isLt
  have hy := y.isLt
  have eq : arg2.view.readAt (Elt Ideal) (qRect a.val ⟨y.val / 128, by omega⟩).toLoadRect (harg2.unread x1)
      (ix2 (⟨y.val % 128, by omega⟩ : Fin 128) (⟨k.val / 8, by omega⟩ : Fin 128)) = x1 (ix2 y ⟨128 * a.val + k.val / 8, by omega⟩) := by
    refine (harg2.readAt_unread x1 _ _).trans (congrArg x1 (unit_idx _ _ _ _ _ _ ?_ ?_))
    · show y.val = 128 * (y.val / 128) + y.val % 128; omega
    · show 128 * a.val + k.val / 8 = 128 * (a.val % 8) + k.val / 8; omega
  have er : ∀ (m : Memref sig .tc .vmem S64x512 .f32) (L : List (View.Piece (Elt Ideal) S64x512 .f32)),
      m.view.readCov L (rowRect a.val ⟨y.val / 128, by omega⟩ ⟨k.val / 128, by omega⟩).toLoadRect
        (ix2 (0 : Fin 1) (⟨y.val % 128, by omega⟩ : Fin 128))
        = View.canon L (ix2 (⟨8 * a.val + k.val / 128, by omega⟩ : Fin 64) y) := by
    intro m L
    rw [View.readCov_eq_canon']
    refine congrArg (View.canon L) (unit_idx _ _ _ _ _ _ ?_ ?_)
    · show 8 * a.val + k.val / 128 = 8 * (a.val % 8) + k.val / 128 + 0; omega
    · show y.val = 128 * (y.val / 128) + y.val % 128; omega
  exact congrArg₂ (· * ·) (congrArg₂ (· - ·) (congrArg (fun w => ((num w (k.val % 8) - 8 : ℝ) : EReal)) eq)
    ((er arg7 _).trans (zeroPieces_apply i arg3 harg3 x2 p hp _ y)))
    ((er arg8 _).trans (scalePieces_apply arg4 harg4 x3 _ y))

end Cert.Awq
-- ==== Proof.Points.lean ====
/-
  What each grid point leaves: its block of the result, and the reordered activations in the scratch array, which the first
  point writes and every later one reads.
-/
module

public import proofs.«01_k».proof.Proof.BodyValue
public import proofs.«01_k».proof.Proof.Gen.KernelIdeal.Value

@[expose] public section

set_option maxRecDepth 16384

noncomputable section

namespace Cert.Awq

open Idealize.ShloMosaic Idealize.ShloMosaic.TcCoe Cert.KernelIdeal Cert.KernelIdeal.Gen

/-- The reordered activations. -/
def sorted (x0 : Vec Ideal S128x8192 .bf16) : Vec Ideal S128x8192 .bf16 :=
  fun j => x0 (ix2 (j 0) ⟨src (j 1).val, src_lt rfl (j 1).isLt⟩)

section Cases

variable (c : Dev nD) (i : grid0.Coords) (arg1 : Memref sig .tc .vmem S128x8192 .bf16) (harg1 : arg1.IsWhole)
  (arg2 : Memref sig .tc .vmem S512x1024 .i32) (harg2 : arg2.IsWhole) (arg3 : Memref sig .tc .vmem S64x128 .i32) (harg3 : arg3.IsWhole)
  (arg4 : Memref sig .tc .vmem S64x512 .bf16) (harg4 : arg4.IsWhole) (arg5 : Memref sig .tc .vmem S128x512 .bf16) (harg5 : arg5.IsWhole)
  (arg6 : Memref sig .tc .vmem S128x8192 .bf16) (harg6 : arg6.IsWhole) (arg7 : Memref sig .tc .vmem S64x512 .f32) (harg7 : arg7.IsWhole)
  (arg8 : Memref sig .tc .vmem S64x512 .f32) (harg8 : arg8.IsWhole)
  (x0 : Vec Ideal S128x8192 .bf16) (x1 : Vec Ideal S512x1024 .i32) (x2 : Vec Ideal S64x128 .i32) (x3 : Vec Ideal S64x512 .bf16)

theorem zero_off : (![0, 0] : Fin 2 → Nat) = fun _ => 0 := by
  funext a; match a with | ⟨0, _⟩ => rfl | ⟨1, _⟩ => rfl

/-- One store of the whole block leaves what it stored. -/
theorem canon_block (w : Vec Ideal S128x512 .bf16) (h : ∀ a, (![0, 0] : Fin 2 → Nat) a + S128x512.size a ≤ S128x512.size a) :
    View.canon [(⟨Rect.unit ![0, 0] S128x512.size h, w⟩ : View.Piece (Elt Ideal) S128x512 .bf16)] = w :=
  View.canon_unit_zero zero_off h w

/-- The first point leaves the reordered activations in the scratch array. -/
theorem scratch_A (hc0 : cond0_0 i) :
    sout0_A_0 c i arg1 harg1 arg2 harg2 arg3 harg3 arg4 harg4 arg5 harg5 arg6 harg6 arg7 harg7 arg8 harg8 hc0 x0 x1 x2 x3 = sorted x0 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3), acts_A]
  funext j
  obtain ⟨t, y, rfl⟩ : ∃ (t : Fin 128) (y : Fin 8192), j = ix2 t y := ⟨j 0, j 1, by
    funext a; match a with | ⟨0, _⟩ => rfl | ⟨1, _⟩ => rfl⟩
  exact actPieces_apply arg1 harg1 x0 t y

/-- The first point's block. -/
theorem out_A (hc0 : cond0_0 i) (p : Fin 22) (hp : (i 0).val = p.val) (t : Fin 128) (y : Fin 512) :
    out0_A_4 c i arg1 harg1 arg2 harg2 arg3 harg3 arg4 harg4 arg5 harg5 arg6 harg6 arg7 harg7 arg8 harg8 hc0 x0 x1 x2 x3 (ix2 t y)
      = blockSum (sorted x0) x1 x2 x3 p.val t y := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3),
    body_A, canon_block]
  refine block_weights i arg2 harg2 arg3 harg3 arg4 harg4 arg7 arg8 x1 x2 x3 (sorted x0) _ (fun n t k => ?_) p hp t y
  rw [View.readCov_eq_canon']
  refine (congrArg (View.canon _) (unit_idx _ _ _ _ t (⟨1024 * (n % 8) + k.val, by omega⟩ : Fin 8192) ?_ ?_)).trans
    (actPieces_apply arg1 harg1 x0 t _)
  · show t.val = 0 + t.val; omega
  · rfl

/-- A later point's block, over what the scratch array holds. -/
theorem out_B (xs0 : Vec Ideal S128x8192 .bf16) (hc0 : ¬cond0_0 i) (p : Fin 22) (hp : (i 0).val = p.val) (t : Fin 128) (y : Fin 512) :
    out0_B_4 c i arg1 harg1 arg2 harg2 arg3 harg3 arg4 harg4 arg5 harg5 arg6 harg6 arg7 harg7 arg8 harg8 hc0 x0 x1 x2 x3 xs0 (ix2 t y)
      = blockSum xs0 x1 x2 x3 p.val t y := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0),
    body_B, canon_block]
  refine block_weights i arg2 harg2 arg3 harg3 arg4 harg4 arg7 arg8 x1 x2 x3 xs0 _ (fun n t k => ?_) p hp t y
  refine (harg6.readAt_unread xs0 _ _).trans (congrArg xs0 (unit_idx _ _ _ _ t (⟨1024 * (n % 8) + k.val, by omega⟩ : Fin 8192) ?_ ?_))
  · show t.val = 0 + t.val; omega
  · rfl

end Cases

variable (m : (ℓ : Loc nD τ sig) → Buf (Elt Ideal) ℓ)

/-! ## The input blocks -/

/-- The activations the kernel is given: `x` with its middle axis dropped. -/
def acts (c : Dev nD) : Vec Ideal S128x8192 .bf16 :=
  shapeCast S128x8192 (m ((c : Thread nD τ).loc main_arg0)) shapeCasts_S128x1x8192_S128x8192

theorem V_acts (c : Dev nD) : V m c main_v0 = acts m c := rfl

theorem coords_val : ∀ t : Fin cfg0.N, (grid0.coords t 0).val = t.val :=
  (by decide +kernel : ∀ t : Fin grid0.N, (grid0.coords t 0).val = t.val)

theorem index_0 : ∀ t : Fin cfg0.N, win0_0.index t 0 = 0 ∧ win0_0.index t 1 = 0 :=
  (by decide +kernel : ∀ t : Fin grid0.N, _)
theorem index_1 : ∀ t : Fin cfg0.N, win0_1.index t 0 = t.val ∧ win0_1.index t 1 = 0 :=
  (by decide +kernel : ∀ t : Fin grid0.N, _)
theorem index_2 : ∀ t : Fin cfg0.N, win0_2.index t 0 = 0 ∧ win0_2.index t 1 = t.val / 2 :=
  (by decide +kernel : ∀ t : Fin grid0.N, _)
theorem index_3 : ∀ t : Fin cfg0.N, win0_3.index t 0 = 0 ∧ win0_3.index t 1 = t.val :=
  (by decide +kernel : ∀ t : Fin grid0.N, _)

theorem N_le (t : Fin cfg0.N) : t.val < 22 := lt_of_lt_of_eq t.isLt N_0

/-- Every point is given all the activations. -/
theorem iblk_0 (c : Dev nD) (t : Fin cfg0.N) : (iblk m c 0 t : Vec Ideal S128x8192 .bf16) = acts m c := by
  funext j
  obtain ⟨h0, h1⟩ := index_0 t
  show acts m c (((cfg0.win 0).blk t).view.emb j) = acts m c j
  refine congrArg (acts m c) (funext fun a => Fin.ext ?_)
  match a with
  | ⟨0, _⟩ => show win0_0.index t 0 * 128 + 1 * (j 0).val = (j 0).val; omega
  | ⟨1, _⟩ => show win0_0.index t 1 * 8192 + 1 * (j 1).val = (j 1).val; omega

/-- The words of point `t`. -/
theorem iblk_1 (c : Dev nD) (t : Fin cfg0.N) (y : Fin 512) (k : Fin 1024) :
    (iblk m c 1 t : Vec Ideal S512x1024 .i32) (ix2 y k)
      = m ((c : Thread nD τ).loc main_arg1) (ix2 (⟨512 * t.val + y.val, by have := N_le t; omega⟩ : Fin 11264) k) := by
  obtain ⟨h0, h1⟩ := index_1 t
  show V m c main_arg1 (((cfg0.win 1).blk t).view.emb (ix2 y k)) = _
  rw [V_main_arg1]
  refine congrArg (m ((c : Thread nD τ).loc main_arg1)) (funext fun a => Fin.ext ?_)
  match a with
  | ⟨0, _⟩ => show win0_1.index t 0 * 512 + 1 * y.val = 512 * t.val + y.val; omega
  | ⟨1, _⟩ => show win0_1.index t 1 * 1024 + 1 * k.val = k.val; omega

/-- The words of point `t`'s zero points (and of its neighbour's). -/
theorem iblk_2 (c : Dev nD) (t : Fin cfg0.N) (g : Fin 64) (k : Fin 128) :
    (iblk m c 2 t : Vec Ideal S64x128 .i32) (ix2 g k)
      = m ((c : Thread nD τ).loc main_arg2) (ix2 g (⟨128 * (t.val / 2) + k.val, by have := N_le t; omega⟩ : Fin 1408)) := by
  obtain ⟨h0, h1⟩ := index_2 t
  show V m c main_arg2 (((cfg0.win 2).blk t).view.emb (ix2 g k)) = _
  rw [V_main_arg2]
  refine congrArg (m ((c : Thread nD τ).loc main_arg2)) (funext fun a => Fin.ext ?_)
  match a with
  | ⟨0, _⟩ => show win0_2.index t 0 * 64 + 1 * g.val = g.val; omega
  | ⟨1, _⟩ => show win0_2.index t 1 * 128 + 1 * k.val = 128 * (t.val / 2) + k.val; omega

/-- The scales of point `t`. -/
theorem iblk_3 (c : Dev nD) (t : Fin cfg0.N) (g : Fin 64) (y : Fin 512) :
    (iblk m c 3 t : Vec Ideal S64x512 .bf16) (ix2 g y)
      = m ((c : Thread nD τ).loc main_arg3) (ix2 g (⟨512 * t.val + y.val, by have := N_le t; omega⟩ : Fin 11264)) := by
  obtain ⟨h0, h1⟩ := index_3 t
  show V m c main_arg3 (((cfg0.win 3).blk t).view.emb (ix2 g y)) = _
  rw [V_main_arg3]
  refine congrArg (m ((c : Thread nD τ).loc main_arg3)) (funext fun a => Fin.ext ?_)
  match a with
  | ⟨0, _⟩ => show win0_3.index t 0 * 64 + 1 * g.val = g.val; omega
  | ⟨1, _⟩ => show win0_3.index t 1 * 512 + 1 * y.val = 512 * t.val + y.val; omega

/-! ## Every point -/

/-- After every point the scratch array holds the reordered activations. -/
theorem scratch_after (c : Dev nD) : ∀ (n : Nat) (hn : n < cfg0.N), (outsAt0 m c n hn).2 = sorted (acts m c)
  | 0, hn => by
    rw [outsAt0_A m c ⟨0, hn⟩ (Nat.zero_mod _)]
    dsimp only
    rw [scratch_A, iblk_0]
  | n + 1, hn => by
    have hN := N_le ⟨n + 1, hn⟩
    have h0 : ¬(n + 1) % 22 = 0 := by
      have : n + 1 < 22 := hN
      omega
    rw [outsAt0_B m c ⟨n + 1, hn⟩ h0]
    exact scratch_after c n _

/-- What point `t` leaves in its block of the result. -/
theorem out_after (c : Dev nD) (p : Fin cfg0.N) (t : Fin 128) (y : Fin 512) :
    (outsAt0 m c p.val p.isLt).1 (ix2 t y)
      = blockSum (sorted (acts m c)) (iblk m c 1 p) (iblk m c 2 p) (iblk m c 3 p) p.val t y := by
  have hp : (grid0.coords p 0).val = (⟨p.val, N_le p⟩ : Fin 22).val := coords_val p
  by_cases h0 : p.val % 22 = 0
  · rw [outsAt0_A m c p h0]
    dsimp only
    rw [out_A (p := ⟨p.val, N_le p⟩) (hp := hp), iblk_0]
  · rw [outsAt0_B m c p h0]
    dsimp only
    rw [out_B (p := ⟨p.val, N_le p⟩) (hp := hp), scratch_after]

end Cert.Awq
-- ==== Proof.Equation.lean ====
/-
  The two orders of summation. The kernel goes over eight chunks of 1024 rows, the reference over the fields of a word and the
  words of a row: row `k` of chunk `i` is field `k mod 8` of word `128 i + k / 8`.
-/
module

public import Mathlib.Algebra.BigOperators.Fin
public import Mathlib.Data.EReal.Operations
public import Mathlib.Tactic.Ring

@[expose] public section

namespace Cert.Awq

/-- A sum over 1024 positions, eight at a time. -/
theorem sum_by_eight {M : Type} [AddCommMonoid M] (g : Fin 1024 → M) :
    ∑ k : Fin 1024, g k = ∑ u : Fin 128, ∑ i : Fin 8, g ⟨8 * u.val + i.val, by omega⟩ := by
  rw [← Fintype.sum_prod_type', ← Equiv.sum_comp (finProdFinEquiv (m := 128) (n := 8))]
  refine Finset.sum_congr rfl fun x _ => congrArg g (Fin.ext ?_)
  show x.2.val + 8 * x.1.val = 8 * x.1.val + x.2.val
  omega

/-- A sum over 1024 positions, 128 at a time. -/
theorem sum_by_128 {M : Type} [AddCommMonoid M] (g : Fin 1024 → M) :
    ∑ k : Fin 1024, g k = ∑ a : Fin 8, ∑ u : Fin 128, g ⟨128 * a.val + u.val, by omega⟩ := by
  rw [← Fintype.sum_prod_type', ← Equiv.sum_comp (finProdFinEquiv (m := 8) (n := 128))]
  refine Finset.sum_congr rfl fun x _ => congrArg g (Fin.ext ?_)
  show x.2.val + 128 * x.1.val = 128 * x.1.val + x.2.val
  omega

/-- The kernel's order of summation and the reference's. -/
theorem sum_reorder {M : Type} [AddCommMonoid M] (f : Fin 1024 → Fin 8 → M) :
    ∑ a : Fin 8, ∑ k : Fin 1024, f ⟨128 * a.val + k.val / 8, by omega⟩ ⟨k.val % 8, by omega⟩ = ∑ i : Fin 8, ∑ c : Fin 1024, f c i := by
  rw [Finset.sum_comm (s := (Finset.univ : Finset (Fin 8))) (t := (Finset.univ : Finset (Fin 1024))) (f := fun i c => f c i),
    sum_by_128 (fun c => ∑ i : Fin 8, f c i)]
  refine Finset.sum_congr rfl fun a _ => ?_
  rw [sum_by_eight]
  refine Finset.sum_congr rfl fun u _ => Finset.sum_congr rfl fun i _ => ?_
  have h1 : (8 * u.val + i.val) / 8 = u.val := by omega
  have h2 : (8 * u.val + i.val) % 8 = i.val := by omega
  simp only [h1, h2]

/-- Taking eight from a code and from its zero point leaves their difference. -/
theorem sub_eight (a b : ℝ) : ((a - 8 : ℝ) : EReal) - ((b - 8 : ℝ) : EReal) = (a : EReal) - (b : EReal) := by
  rw [← EReal.coe_sub, ← EReal.coe_sub]
  congr 1
  ring

end Cert.Awq
-- ==== Proof.RefTerm.lean ====
/-
  What the reference computes, as one function of its four arguments cut into named parts, and the values of those parts
  over the extended reals: the features of each word, the zero points, the groups' one-hot matrix, the weights.
-/
module

public import proofs.«01_k».proof.Proof.Words
public import proofs.«01_k».proof.Proof.Gen.ReferenceIdeal.Run
public import Idealize.ShloMosaic.Lib.Pipeline.Value
public import Idealize.ShloMosaic.Lib.Pointwise

@[expose] public section

set_option maxRecDepth 16384

noncomputable section

namespace Cert.Awq.Ref

open Idealize.ShloMosaic Idealize.ShloMosaic.TcCoe Idealize.ShloMosaic.StableHlo
open Cert.ReferenceIdeal Cert.ReferenceIdeal.Gen Cert.ReferenceIdeal.Value

variable {F : FTy → Type} [FloatOps F]

/-- One feature of every word's eight. -/
def featureRow (x : FVec F S128x1x8192 .bf16) (o : Nat) (h : S128x8x1024.Slices ![0, o, 0] S128x1x1024) : FVec F S128x1x1024 .bf16 :=
  broadcastInDim S128x1x1024 ![0, 2] bcast_S128x1024_S128x1x1024_0_2 (shapeCast S128x1024
    (extractStridedSlice S128x1x1024 ![0, o, 0] (transpose S128x8x1024 [0, 2, 1] (shapeCast S128x1024x8 x shapeCasts_S128x1x8192_S128x1024x8)
      transposes_S128x1024x8_S128x8x1024_0_2_1) h) shapeCasts_S128x1x1024_S128x1024)

theorem feature_slices (i : Fin 8) : S128x8x1024.Slices ![0, feature i.val, 0] S128x1x1024 := by revert i; decide +kernel

theorem feature_stack {α : Type} (f : Fin 8 → S128x1x1024.Idx → α) :
    Shape.Concatenates ((List.ofFn fun n : Fin 8 => (⟨S128x1x1024, f n⟩ : (s : Shape) × (s.Idx → α))).map (·.1)) S128x8x1024 1 := by
  rw [List.map_ofFn, show ((fun x : (s : Shape) × (s.Idx → α) => x.1) ∘ fun n : Fin 8 => (⟨S128x1x1024, f n⟩ : (s : Shape) × (s.Idx → α)))
    = fun _ => S128x1x1024 from rfl, List.ofFn_const]
  decide +kernel

/-- The activations, the fields of a word apart. -/
def acts (x : FVec F S128x1x8192 .bf16) : FVec F S128x8x1024 .bf16 :=
  concatenate S128x8x1024 1 (List.ofFn fun i : Fin 8 => ⟨S128x1x1024, featureRow x (feature i.val) (feature_slices i)⟩) (feature_stack _)

/-- One column of every word's eight, of the zero points. -/
def zeroRow (z : IVec S64x1408 32) (k : BitVec 32) : IVec S64x1408x1 32 :=
  broadcastInDim S64x1408x1 ![0, 1] bcast_S64x1408_S64x1408x1_0_1 (andi
    (Host.shrsi z (broadcastInDim S64x1408 ![] bcast_S_S64x1408 (constantI S_ 32 k)))
    (broadcastInDim S64x1408 ![] bcast_S_S64x1408 (constantI S_ 32 15#32)))

theorem zero_stack {α : Type} (f : Fin 8 → S64x1408x1.Idx → α) :
    Shape.Concatenates ((List.ofFn fun n : Fin 8 => (⟨S64x1408x1, f n⟩ : (s : Shape) × (s.Idx → α))).map (·.1)) S64x1408x8 2 := by
  rw [List.map_ofFn, show ((fun x : (s : Shape) × (s.Idx → α) => x.1) ∘ fun n : Fin 8 => (⟨S64x1408x1, f n⟩ : (s : Shape) × (s.Idx → α)))
    = fun _ => S64x1408x1 from rfl, List.ofFn_const]
  decide +kernel

/-- The zero points. -/
def zeroPts (z : IVec S64x1408 32) : FVec F S64x11264 .bf16 :=
  sitofp .bf16 (shapeCast S64x11264 (concatenate S64x1408x8 2
    (List.ofFn fun p : Fin 8 => ⟨S64x1408x1, zeroRow z (BitVec.ofNat 32 (4 * order p.val))⟩) (zero_stack _)) shapeCasts_S64x1408x8_S64x11264)

/-- The group of every word. -/
def groupOf : IVec S1024 32 :=
  select (andi (cmpi .ne (signi (iotaInDim S1024 32 0)) (broadcastInDim S1024 ![] bcast_S_S1024 (signi (id (constantI S_ 32 16#32)))))
      (cmpi .ne (Host.remsi (iotaInDim S1024 32 0) (broadcastInDim S1024 ![] bcast_S_S1024 (id (constantI S_ 32 16#32))))
        (broadcastInDim S1024 ![] bcast_S_S1024 (constantI S_ 32 0#32))))
    (subi (Host.divsi (iotaInDim S1024 32 0) (broadcastInDim S1024 ![] bcast_S_S1024 (id (constantI S_ 32 16#32))))
      (broadcastInDim S1024 ![] bcast_S_S1024 (constantI S_ 32 1#32)))
    (Host.divsi (iotaInDim S1024 32 0) (broadcastInDim S1024 ![] bcast_S_S1024 (id (constantI S_ 32 16#32))))

/-- The one-hot matrix of the groups. -/
def oneHot : FVec F S64x1024 .bf16 :=
  truncf .bf16 (uitofp .f32 (cmpi .eq
    (broadcastInDim S64x1024 ![0, 1] bcast_S64x1_S64x1024_0_1 (broadcastInDim S64x1 ![0] bcast_S64_S64x1_0 (iotaInDim S64 32 0)))
    (broadcastInDim S64x1024 ![0, 1] bcast_S1x1024_S64x1024_0_1 (broadcastInDim S1x1024 ![1] bcast_S1024_S1x1024_1 groupOf)))) bitsLt_bf16_f32

/-- A value per group and column, spread over the words of the group and the fields of a word. -/
def expand (a : FVec F S64x11264 .bf16) : FVec F S11264x8x1024 .bf16 :=
  broadcastInDim S11264x8x1024 ![0, 1, 2] bcast_S11264x1x1024_S11264x8x1024_0_1_2
    (broadcastInDim S11264x1x1024 ![0, 2] bcast_S11264x1024_S11264x1x1024_0_2
      (truncf .bf16 (Host.dotGeneral dot_S64x11264_S64x1024_S11264x1024_0_0_1_1_n_n none a oneHot) bitsLt_bf16_f32))

/-- The codes, the fields of a word apart. -/
def refCodes (w : IVec S11264x1024 32) : FVec F S11264x8x1024 .bf16 :=
  sitofp .bf16 (andi
    (Host.shrsi
      (broadcastInDim S11264x8x1024 ![0, 1, 2] bcast_S11264x1x1024_S11264x8x1024_0_1_2
        (broadcastInDim S11264x1x1024 ![0, 2] bcast_S11264x1024_S11264x1x1024_0_2 w))
      (broadcastInDim S11264x8x1024 ![0, 1, 2] bcast_S1x8x1_S11264x8x1024_0_1_2 (broadcastInDim S1x8x1 ![1] bcast_S8_S1x8x1_1
        (muli (iotaInDim S8 32 0) (broadcastInDim S8 ![] bcast_S_S8 (constantI S_ 32 4#32))))))
    (broadcastInDim S11264x8x1024 ![] bcast_S_S11264x8x1024 (constantI S_ 32 15#32)))

/-- The reference's result. -/
def refOut (x : FVec F S128x1x8192 .bf16) (w : IVec S11264x1024 32) (z : IVec S64x1408 32) (s : FVec F S64x11264 .bf16) :
    FVec F S128x11264 .bf16 :=
  truncf .bf16 (Host.dotGeneral dot_S128x8x1024_S11264x8x1024_S128x11264_12_12_0_0_n_n none (acts x)
    (mulf (subf (refCodes w) (expand (zeroPts z))) (expand s))) bitsLt_bf16_f32

/-- The reference's run ends with that function of the arguments. -/
theorem res_eq (m : (ℓ : Loc nD τ sig) → Buf (Elt F) ℓ) (c : Dev nD) :
    res_out0 m c = refOut (m ((c.tc : Thread nD τ).loc main_arg0)) (m ((c.tc : Thread nD τ).loc main_arg1))
      (m ((c.tc : Thread nD τ).loc main_arg2)) (m ((c.tc : Thread nD τ).loc main_arg3)) := by
  unfold res_out0 res_main_v112
  rfl

end Cert.Awq.Ref
-- ==== Proof.RefValue.lean ====
/-
  The values of the reference's parts over the extended reals, and of its result at an index: a sum over the fields of a word
  and the words of a row.
-/
module

public import proofs.«01_k».proof.Proof.RefTerm

@[expose] public section

set_option maxRecDepth 16384

noncomputable section

namespace Cert.Awq.Ref

open Idealize.ShloMosaic Idealize.ShloMosaic.TcCoe Idealize.ShloMosaic.StableHlo
open Cert.ReferenceIdeal Cert.ReferenceIdeal.Gen Cert.ReferenceIdeal.Value

theorem acts_apply (x : FVec Ideal S128x1x8192 .bf16) (t : Fin 128) (i : Fin 8) (c : Fin 1024) :
    acts x (ix3 t i c) = x (ix3 t 0 ⟨8 * c.val + feature i.val, by have := feature_lt i.isLt; omega⟩) := by
  unfold acts
  rw [concatenate_ofFn_apply (t := S128x8x1024) (s₁ := S128x1x1024) 1 (fun i : Fin 8 => featureRow x (feature i.val) (feature_slices i)) _ rfl 1 rfl
    (ix3 t i c : S128x8x1024.Idx) i (Nat.div_one _) (ix3 t 0 c : S128x1x1024.Idx) (Nat.mod_one _).symm (fun b hb => by
      match b, hb with
      | ⟨0, _⟩, _ => rfl
      | ⟨1, _⟩, hb => exact absurd rfl hb
      | ⟨2, _⟩, _ => rfl)]
  unfold featureRow
  pointwise
  have e : (⟨c.val * 8 + feature i.val, by have := feature_lt i.isLt; omega⟩ : Fin 8192)
      = ⟨8 * c.val + feature i.val, by have := feature_lt i.isLt; omega⟩ := Fin.ext (by show c.val * 8 + _ = 8 * c.val + _; omega)
  rw [e]

theorem zeroPts_apply (z : IVec S64x1408 32) (g : Fin 64) (n : Fin 11264) :
    zeroPts (F := Ideal) z (ix2 g n) = ((num (z (ix2 g ⟨n.val / 8, by omega⟩)) (order (n.val % 8)) : ℝ) : EReal) := by
  unfold zeroPts
  pointwise
  have h8 : order (n.val % 8) < 8 := order_lt (by omega)
  unfold zeroRow
  pointwise
  generalize z _ = v
  have ht : (BitVec.ofNat 32 (4 * order (n.val % 8))).toNat = 4 * order (n.val % 8) := by
    have hl : 4 * order (n.val % 8) < 2 ^ 32 := by omega
    rw [BitVec.toNat_ofNat, Nat.mod_eq_of_lt hl]
  have e : IntOp.andi (IntOp.shrsi .host v (BitVec.ofNat 32 (4 * order (n.val % 8)))) 15#32
      = v.sshiftRight (4 * order (n.val % 8)) &&& 15#32 := by
    unfold IntOp.andi IntOp.shrsi
    rw [if_pos (by rw [ht]; omega), BitVec.sshiftRight', ht]
  refine (congrArg (fun b : BitVec 32 => ((b.toInt : ℝ) : EReal)) e).trans ?_
  show (((v.sshiftRight (4 * order (n.val % 8)) &&& 15#32).toInt : ℝ) : EReal) = _
  rw [ref_code v _ h8, num]
  push_cast
  rfl

/-- The group of word `c`, as the reference computes it: the quotient by 16, rounded down. -/
def groupWord (c : Nat) : BitVec 32 :=
  Scalar.select
    (IntOp.andi
      (IntOp.cmpi (w := 32) .ne (if BitVec.ofNat 32 c = 0 then 0 else if (BitVec.ofNat 32 c).msb = true then -1 else 1)
        (if (16#32 : BitVec 32) = 0 then 0 else if (16#32 : BitVec 32).msb = true then -1 else 1))
      (IntOp.cmpi .ne (IntOp.remsi .host (BitVec.ofNat 32 c) 16#32) 0#32))
    (IntOp.subi (IntOp.divsi .host (BitVec.ofNat 32 c) 16#32) 1#32)
    (IntOp.divsi .host (BitVec.ofNat 32 c) 16#32)

theorem groupWord_eq : ∀ c : Fin 1024, groupWord c.val = BitVec.ofNat 32 (c.val / 16) := by decide +kernel

theorem groupOf_apply : ∀ c : Fin 1024, groupOf (ix1 c) = BitVec.ofNat 32 (c.val / 16) := by
  intro c
  unfold groupOf
  pointwise
  exact groupWord_eq c

theorem oneHot_apply (g : Fin 64) (c : Fin 1024) : oneHot (F := Ideal) (ix2 g c) = if g.val = c.val / 16 then (1 : EReal) else 0 := by
  unfold oneHot
  pointwise
  rw [groupOf_apply]
  have e : IntOp.cmpi .eq (BitVec.ofNat 32 g.val) (BitVec.ofNat 32 (c.val / 16)) = BitVec.ofBool (decide (g.val = c.val / 16)) := by
    unfold IntOp.cmpi
    refine congrArg BitVec.ofBool ?_
    rw [Bool.eq_iff_iff, beq_iff_eq, decide_eq_true_iff]
    constructor
    · intro h
      have := congrArg BitVec.toNat h
      rw [BitVec.toNat_ofNat, BitVec.toNat_ofNat] at this
      omega
    · intro h; rw [h]
  refine (congrArg (fun b : BitVec 1 => ((b.toNat : ℝ) : EReal)) e).trans ?_
  by_cases h : g.val = c.val / 16
  · simp [h]
  · simp [h]

theorem expand_apply (a : FVec Ideal S64x11264 .bf16) (n : Fin 11264) (i : Fin 8) (c : Fin 1024) :
    expand a (ix3 n i c) = a (ix2 ⟨c.val / 16, by omega⟩ n) := by
  unfold expand
  pointwise
  rw [Finset.sum_eq_single (⟨c.val / 16, by omega⟩ : Fin 64)]
  · rw [oneHot_apply, if_pos rfl, mul_one]
  · intro g _ hg
    rw [oneHot_apply, if_neg (fun h => hg (Fin.ext h)), mul_zero]
  · intro h; exact absurd (Finset.mem_univ _) h

theorem refCodes_apply (w : IVec S11264x1024 32) (n : Fin 11264) (i : Fin 8) (c : Fin 1024) :
    refCodes (F := Ideal) w (ix3 n i c) = ((num (w (ix2 n c)) i.val : ℝ) : EReal) := by
  unfold refCodes
  pointwise
  generalize w _ = v
  have e : IntOp.andi (IntOp.shrsi .host v (IntOp.muli (BitVec.ofNat 32 i.val) 4#32)) 15#32 = v.sshiftRight (4 * i.val) &&& 15#32 := by
    have h : ∀ i : Fin 8, (IntOp.muli (BitVec.ofNat 32 i.val) 4#32).toNat = 4 * i.val := by decide
    have hi := i.isLt
    unfold IntOp.andi IntOp.shrsi
    rw [if_pos (by rw [h]; omega), BitVec.sshiftRight', h]
  refine (congrArg (fun b : BitVec 32 => ((b.toInt : ℝ) : EReal)) e).trans ?_
  show (((v.sshiftRight (4 * i.val) &&& 15#32).toInt : ℝ) : EReal) = _
  rw [ref_code v _ i.isLt, num]
  push_cast
  rfl

theorem refOut_apply (x : FVec Ideal S128x1x8192 .bf16) (w : IVec S11264x1024 32) (z : IVec S64x1408 32) (s : FVec Ideal S64x11264 .bf16)
    (t : Fin 128) (n : Fin 11264) : refOut x w z s (ix2 t n)
      = ∑ i : Fin 8, ∑ c : Fin 1024, (x (ix3 t 0 ⟨8 * c.val + feature i.val, by have := feature_lt i.isLt; omega⟩) : EReal)
          * ((((num (w (ix2 n c)) i.val : ℝ) : EReal)
              - ((num (z (ix2 ⟨c.val / 16, by omega⟩ ⟨n.val / 8, by omega⟩)) (order (n.val % 8)) : ℝ) : EReal))
            * s (ix2 ⟨c.val / 16, by omega⟩ n)) := by
  unfold refOut
  pointwise
  refine Finset.sum_congr rfl fun i _ => Finset.sum_congr rfl fun c _ => ?_
  rw [acts_apply, refCodes_apply, expand_apply, expand_apply, zeroPts_apply]

end Cert.Awq.Ref
-- ==== Proof.Result.lean ====
/-
  The equation: the array the kernel ends with is the reference's function of the arguments.
-/
module

public import proofs.«01_k».proof.Proof.Points
public import proofs.«01_k».proof.Proof.Equation
public import proofs.«01_k».proof.Proof.RefValue

@[expose] public section

set_option maxRecDepth 16384

noncomputable section

namespace Cert.Awq

open Idealize.ShloMosaic Idealize.ShloMosaic.TcCoe Cert.KernelIdeal Cert.KernelIdeal.Gen Cert.KernelIdeal.Value

variable (m : (ℓ : Loc nD τ sig) → Buf (Elt Ideal) ℓ)

theorem cast_apply (x : Vec Ideal S128x1x8192 .bf16) (t : Fin 128) (k : Fin 8192) :
    shapeCast S128x8192 x shapeCasts_S128x1x8192_S128x8192 (ix2 t k) = x (ix3 t 0 k) := by
  pointwise

/-- The kernel's activations at an index: `x` itself. -/
theorem acts_apply (c : Dev nD) (t : Fin 128) (k : Fin 8192) :
    acts m c (ix2 t k) = (m ((c : Thread nD τ).loc main_arg0) : Vec Ideal S128x1x8192 .bf16) (ix3 t 0 k) :=
  cast_apply _ t k

/-- The reference's function of the kernel's arguments. -/
def expected (c : Dev nD) : FVec Ideal S128x11264 .bf16 :=
  Ref.refOut (F := Ideal) (m ((c : Thread nD τ).loc main_arg0)) (m ((c : Thread nD τ).loc main_arg1))
    (m ((c : Thread nD τ).loc main_arg2)) (m ((c : Thread nD τ).loc main_arg3))

/-- What point `p` leaves at its row `t` and column `y` is the reference's result at column `512 p + y`. -/
theorem out_after_eq (c : Dev nD) (p : Fin cfg0.N) (t : Fin 128) (y : Fin 512) :
    (outsAt0 m c p.val p.isLt).1 (ix2 t y)
      = expected m c (ix2 t (⟨512 * p.val + y.val, by have := N_le p; omega⟩ : Fin 11264)) := by
  have hp := N_le p
  unfold expected
  rw [out_after, Ref.refOut_apply, ← sum_reorder]
  unfold blockSum
  refine Finset.sum_congr rfl fun a _ => Finset.sum_congr rfl fun k _ => ?_
  rw [iblk_1, iblk_2, iblk_3, sub_eight]
  have hk := k.isLt
  have hy := y.isLt
  have e8 : (512 * p.val + y.val) % 8 = y.val % 8 := by omega
  refine congrArg₂ (· * ·) ?_ (congrArg₂ (· * ·) (congrArg₂ (· - ·) rfl ?_) ?_)
  · refine (acts_apply m c t _).trans (congrArg (fun z => (m ((c : Thread nD τ).loc main_arg0) : Vec Ideal S128x1x8192 .bf16) (ix3 t 0 z)) (Fin.ext ?_))
    show src (1024 * a.val + k.val) = 8 * (128 * a.val + k.val / 8) + feature (k.val % 8)
    unfold src feature
    omega
  · show _ = ((num _ (order ((512 * p.val + y.val) % 8)) : ℝ) : EReal)
    rw [e8]
    refine congrArg (fun w => ((num w (order (y.val % 8)) : ℝ) : EReal))
      (congrArg₂ (fun u v => (m ((c : Thread nD τ).loc main_arg2) : Vec Ideal S64x1408 .i32) (ix2 u v)) (Fin.ext ?_) (Fin.ext ?_))
    · show 8 * a.val + k.val / 128 = (128 * a.val + k.val / 8) / 16; omega
    · show 128 * (p.val / 2) + (64 * (p.val % 2) + y.val / 8) = (512 * p.val + y.val) / 8; omega
  · refine congrArg (fun u => (m ((c : Thread nD τ).loc main_arg3) : Vec Ideal S64x11264 .bf16) (ix2 u _)) (Fin.ext ?_)
    show 8 * a.val + k.val / 128 = (128 * a.val + k.val / 8) / 16
    omega

/-- The whole array. -/
theorem result_eq (c : Dev nD) : G4 m c = expected m c := by
  funext i
  obtain ⟨t, n, rfl⟩ : ∃ (t : Fin 128) (n : Fin 11264), i = ix2 t n := ⟨i 0, i 1, by
    funext a; match a with | ⟨0, _⟩ => rfl | ⟨1, _⟩ => rfl⟩
  have hp : pt4Of (ix2 t n) = n.val / 512 := by
    show 22 * (t.val / 128 - 0) + 1 * (n.val / 512 - 0) = n.val / 512
    omega
  have hN : cfg0.N = 22 := N_0
  have hlt : pt4Of (ix2 t n) < cfg0.N := by rw [hp, hN]; omega
  have hl : loc4Of (ix2 t n) = ix2 t (⟨n.val % 512, by omega⟩ : Fin 512) := by
    funext a
    apply Fin.ext
    match a with
    | ⟨0, _⟩ => show t.val % 128 = t.val; omega
    | ⟨1, _⟩ => rfl
  unfold G4
  rw [dif_pos hlt, ← outsAt0_sweep m c (pt4Of (ix2 t n)) hlt, hl]
  refine (out_after_eq m c ⟨pt4Of (ix2 t n), hlt⟩ t ⟨n.val % 512, by omega⟩).trans ?_
  refine congrArg (fun z => expected m c (ix2 t z)) (Fin.ext ?_)
  show 512 * pt4Of (ix2 t n) + n.val % 512 = n.val
  rw [hp]
  omega

end Cert.Awq
-- ==== Proof.lean ====
/-
  The proof of `Cert.Claim`. The frames are the generated ones; the value claim puts the kernel's run, whose array is
  `expected` of its arguments (`Cert.Awq.result_eq`), beside the reference's run, whose result is `Ref.refOut` of its own
  (`Cert.Awq.Ref.res_eq`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Result

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3⟩ := hagree c
  refine (h c).1.trans ((Cert.Awq.Ref.res_eq m' c).trans (Eq.trans ?_ (Cert.Awq.result_eq m c).symm))
  unfold Cert.Awq.expected
  rw [e0, e1, e2, e3]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
